-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x1024 .f32 := (extf .f32 · bitsLt_bf16_f32) main_arg2
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Pre_finite_scores_ReferenceIdeal.lean ====
abbrev S4096x1024 : Shape := ⟨2, ![4096, 1024]⟩
abbrev S1024x1024 : Shape := ⟨2, ![1024, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4096x1024 .bf16) (main_arg1 : FVec F S1024x1024 .bf16) (main_arg2 : FVec F S4096x1024 .bf16) (main_arg3 : FVec F S4096x1024 .bf16) (main_arg4 : FVec F S1024x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Kernel.lean ====
abbrev S1024x1024 : Shape := ⟨2, ![1024, 1024]⟩
abbrev S4x512x1024 : Shape := ⟨3, ![4, 512, 1024]⟩
abbrev S4x2x4 : Shape := ⟨3, ![4, 2, 4]⟩
abbrev S_ : Shape := ⟨0, ![]⟩
abbrev S1x1x1 : Shape := ⟨3, ![1, 1, 1]⟩
abbrev S1x512x1024 : Shape := ⟨3, ![1, 512, 1024]⟩
abbrev S512x1024 : Shape := ⟨2, ![512, 1024]⟩
abbrev S64x1024 : Shape := ⟨2, ![64, 1024]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x64x1024 : Shape := ⟨3, ![1, 64, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S4x512x1024, .bf16⟩
  | .local _ .vmem, ⟨7, _⟩ => ⟨S4x512x1024, .bf16⟩
  | .local _ .vmem, ⟨8, _⟩ => ⟨S4x512x1024, .bf16⟩
  | .local _ .vmem, ⟨9, _⟩ => ⟨S4x512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v13 : BitVec 32 := Scalar.muli v7 c1_i32_17
  let v14 : BitVec 32 := Scalar.addi c0_i32_18 v13
  v14.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_30 : BitVec 32 := 1#32
  let v22 : BitVec 32 := Scalar.muli v7 c1_i32_30
  let v23 : BitVec 32 := Scalar.addi c0_i32_31 v22
  v23.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_43 : BitVec 32 := 1#32
  let v31 : BitVec 32 := Scalar.muli v5 c1_i32_43
  let v32 : BitVec 32 := Scalar.addi c0_i32_44 v31
  v32.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_54 : BitVec 32 := 1#32
  let v40 : BitVec 32 := Scalar.muli v5 c1_i32_54
  let v41 : BitVec 32 := Scalar.addi c0_i32_55 v40
  v41.toNat
def k0_dev7 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_274 : BitVec 32 := 1#32
  let v577 : BitVec 32 := Scalar.muli v7 c1_i32_274
  let v578 : BitVec 32 := Scalar.addi c0_i32_275 v577
  v578.toNat
def k0_dev8 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_313 : BitVec 32 := 1#32
  let v599 : BitVec 32 := Scalar.muli v5 c1_i32_313
  let v600 : BitVec 32 := Scalar.addi c0_i32_314 v599
  v600.toNat
def k0_dev9 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_352 : BitVec 32 := 1#32
  let v621 : BitVec 32 := Scalar.muli v7 c1_i32_352
  let v622 : BitVec 32 := Scalar.addi c0_i32_353 v621
  v622.toNat
def k0_dev10 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_391 : BitVec 32 := 1#32
  let v643 : BitVec 32 := Scalar.muli v5 c1_i32_391
  let v644 : BitVec 32 := Scalar.addi c0_i32_392 v643
  v644.toNat
def k0_dev11 (d0 : Dev nD) : Nat :=
  let c0_i32_656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_655 : BitVec 32 := 1#32
  let v1411 : BitVec 32 := Scalar.muli v7 c1_i32_655
  let v1412 : BitVec 32 := Scalar.addi c0_i32_656 v1411
  v1412.toNat
def k0_dev12 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_696 : BitVec 32 := 1#32
  let v1435 : BitVec 32 := Scalar.muli v5 c1_i32_696
  let v1436 : BitVec 32 := Scalar.addi c0_i32_697 v1435
  v1436.toNat
def k0_dev13 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_737 : BitVec 32 := 1#32
  let v1459 : BitVec 32 := Scalar.muli v7 c1_i32_737
  let v1460 : BitVec 32 := Scalar.addi c0_i32_738 v1459
  v1460.toNat
def k0_dev14 (d0 : Dev nD) : Nat :=
  let c0_i32_779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_778 : BitVec 32 := 1#32
  let v1483 : BitVec 32 := Scalar.muli v5 c1_i32_778
  let v1484 : BitVec 32 := Scalar.addi c0_i32_779 v1483
  v1484.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S4096x1024 : Shape := ⟨2, ![4096, 1024]⟩
abbrev S1024x1024 : Shape := ⟨2, ![1024, 1024]⟩
abbrev S4096x8x128 : Shape := ⟨3, ![4096, 8, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S8x4096x4096 : Shape := ⟨3, ![8, 4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S1x4096x1 : Shape := ⟨3, ![1, 4096, 1]⟩
abbrev S8x128x4096 : Shape := ⟨3, ![8, 128, 4096]⟩

abbrev nBuf : Space → Nat
  | .hbm => 145
  | .vmem => 0
  | .smem => 0
  | _ => 0

abbrev hbmTy0_0 (i : Nat) : BufTy := match i % 128 with
  | 0 => ⟨S4096x1024, .bf16⟩
  | 1 => ⟨S1024x1024, .bf16⟩
  | 2 => ⟨S4096x1024, .bf16⟩
  | 3 => ⟨S4096x1024, .bf16⟩
  | 4 => ⟨S1024x1024, .bf16⟩
  | 5 => ⟨S4096x1024, .f32⟩
  | 6 => ⟨S1024x1024, .f32⟩
  | 7 => ⟨S4096x1024, .f32⟩
  | 8 => ⟨S4096x1024, .f32⟩
  | 9 => ⟨S1024x1024, .f32⟩
  | 10 => ⟨S4096x1024, .f32⟩
  | 11 => ⟨S4096x8x128, .f32⟩
  | 12 => ⟨S4096x8x128, .f32⟩
  | 13 => ⟨S4096x8x128, .f32⟩
  | 14 => ⟨S4096, .i32⟩
  | 15 => ⟨S_, .i32⟩
  | 16 => ⟨S_, .i32⟩
  | 17 => ⟨S4096, .i32⟩
  | 18 => ⟨S4096, .i32⟩
  | 19 => ⟨S4096, .i32⟩
  | 20 => ⟨S_, .i32⟩
  | 21 => ⟨S4096, .i32⟩
  | 22 => ⟨S4096, .i1⟩
  | 23 => ⟨S4096, .i32⟩
  | 24 => ⟨S4096, .i32⟩
  | 25 => ⟨S_, .i32⟩
  | 26 => ⟨S4096, .i32⟩
  | 27 => ⟨S4096, .i1⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S4096, .i32⟩
  | 35 => ⟨S_, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i1⟩
  | 43 => ⟨S4096, .i32⟩
  | 44 => ⟨S4096, .i32⟩
  | 45 => ⟨S_, .i32⟩
  | 46 => ⟨S4096, .i32⟩
  | 47 => ⟨S4096, .i1⟩
  | 48 => ⟨S4096, .i1⟩
  | 49 => ⟨S_, .i32⟩
  | 50 => ⟨S4096, .i32⟩
  | 51 => ⟨S4096, .i32⟩
  | 52 => ⟨S4096, .i32⟩
  | 53 => ⟨S1x4096, .i32⟩
  | 54 => ⟨S4096x4096, .i32⟩
  | 55 => ⟨S4096x4096, .i32⟩
  | 56 => ⟨S4096x4096, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1x4096, .i32⟩
  | 64 => ⟨S1x4096, .i32⟩
  | 65 => ⟨S_, .i32⟩
  | 66 => ⟨S1x4096, .i32⟩
  | 67 => ⟨S1x4096, .i1⟩
  | 68 => ⟨S_, .i32⟩
  | 69 => ⟨S1x4096, .i32⟩
  | 70 => ⟨S1x4096, .i1⟩
  | 71 => ⟨S_, .i32⟩
  | 72 => ⟨S_, .i1⟩
  | 73 => ⟨S1x4096, .i1⟩
  | 74 => ⟨S1x4096, .i1⟩
  | 75 => ⟨S1x4096, .i1⟩
  | 76 => ⟨S1x4096, .i32⟩
  | 77 => ⟨S1x4096, .i32⟩
  | 78 => ⟨S1x4096, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S4096x1, .i32⟩
  | 86 => ⟨S4096x1, .i32⟩
  | 87 => ⟨S_, .i32⟩
  | 88 => ⟨S4096x1, .i32⟩
  | 89 => ⟨S4096x1, .i1⟩
  | 90 => ⟨S_, .i32⟩
  | 91 => ⟨S4096x1, .i32⟩
  | 92 => ⟨S4096x1, .i1⟩
  | 93 => ⟨S_, .i32⟩
  | 94 => ⟨S_, .i1⟩
  | 95 => ⟨S4096x1, .i1⟩
  | 96 => ⟨S4096x1, .i1⟩
  | 97 => ⟨S4096x1, .i1⟩
  | 98 => ⟨S4096x1, .i32⟩
  | 99 => ⟨S4096x1, .i32⟩
  | 100 => ⟨S4096x1, .i32⟩
  | 101 => ⟨S4096x4096, .i32⟩
  | 102 => ⟨S4096x4096, .i32⟩
  | 103 => ⟨S4096x4096, .i1⟩
  | 104 => ⟨S4096x4096, .i1⟩
  | 105 => ⟨S8x4096x4096, .f32⟩
  | 106 => ⟨S_, .f32⟩
  | 107 => ⟨S_, .f32⟩
  | 108 => ⟨S8x4096x4096, .f32⟩
  | 109 => ⟨S8x4096x4096, .f32⟩
  | 110 => ⟨S1x4096x4096, .i1⟩
  | 111 => ⟨S_, .f32⟩
  | 112 => ⟨S_, .f32⟩
  | 113 => ⟨S8x4096x4096, .i1⟩
  | 114 => ⟨S8x4096x4096, .f32⟩
  | 115 => ⟨S8x4096x4096, .f32⟩
  | 116 => ⟨S_, .f32⟩
  | 117 => ⟨S8x4096, .f32⟩
  | 118 => ⟨S8x4096x1, .f32⟩
  | 119 => ⟨S8x4096x4096, .f32⟩
  | 120 => ⟨S8x4096x4096, .f32⟩
  | 121 => ⟨S8x4096x4096, .f32⟩
  | 122 => ⟨S_, .i1⟩
  | 123 => ⟨S4096, .i1⟩
  | 124 => ⟨S1x4096x1, .i1⟩
  | 125 => ⟨S_, .f32⟩
  | 126 => ⟨S8x4096, .f32⟩
  | 127 => ⟨S8x4096x1, .f32⟩
  | _ => ⟨S4096x1024, .bf16⟩

abbrev hbmTy0_1 (i : Nat) : BufTy := match i % 128 with
  | 0 => ⟨S_, .f32⟩
  | 1 => ⟨S_, .f32⟩
  | 2 => ⟨S8x4096x1, .i1⟩
  | 3 => ⟨S8x4096x1, .f32⟩
  | 4 => ⟨S8x4096x1, .f32⟩
  | 5 => ⟨S8x4096x4096, .f32⟩
  | 6 => ⟨S8x4096x4096, .f32⟩
  | 7 => ⟨S1x4096x1, .i1⟩
  | 8 => ⟨S_, .f32⟩
  | 9 => ⟨S_, .f32⟩
  | 10 => ⟨S8x4096x4096, .i1⟩
  | 11 => ⟨S8x4096x4096, .f32⟩
  | 12 => ⟨S8x4096x4096, .f32⟩
  | 13 => ⟨S8x128x4096, .f32⟩
  | 14 => ⟨S4096x8x128, .f32⟩
  | 15 => ⟨S4096x1024, .f32⟩
  | 16 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v18 : Ref sig .tc := ⟨.hbm, 78, rfl⟩
abbrev main_c_2 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_v5 : Ref sig .tc := ⟨.hbm, 88, rfl⟩
abbrev main_call3_v6 : Ref sig .tc := ⟨.hbm, 89, rfl⟩
abbrev main_call3_c_2 : Ref sig .tc := ⟨.hbm, 90, rfl⟩
abbrev main_call3_v7 : Ref sig .tc := ⟨.hbm, 91, rfl⟩
abbrev main_call3_v8 : Ref sig .tc := ⟨.hbm, 92, rfl⟩
abbrev main_call3_c_3 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_cst_3 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v29 : Ref sig .tc := ⟨.hbm, 115, rfl⟩
abbrev main_cst_4 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_c_5 : Ref sig .tc := ⟨.hbm, 122, rfl⟩
abbrev main_v35 : Ref sig .tc := ⟨.hbm, 123, rfl⟩
abbrev main_v36 : Ref sig .tc := ⟨.hbm, 124, rfl⟩
abbrev main_cst_6 : Ref sig .tc := ⟨.hbm, 125, rfl⟩
abbrev main_v37 : Ref sig .tc := ⟨.hbm, 126, rfl⟩
abbrev main_v38 : Ref sig .tc := ⟨.hbm, 127, rfl⟩
abbrev main_cst_7 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_cst_8 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩

abbrev nD : Nat := 1
abbrev τ : Topo := Topo.v7x

variable {F : FTy → Type} [FloatOps F]
-- ==== Proof.Vals.lean ====
module

public import proofs.«01_k».proof.Proof.Gen.KernelIdeal.Skeleton

/-! The values of the kernel, one definition per step of the attention: the scaled queries, the
scores of one head against one arrived block, the running maximum, sum and weighted values, the
head's result, and the projected output. -/

@[expose] public section

noncomputable section

namespace Cert.KernelIdeal.Attn

open Idealize.ShloMosaic Idealize.SL.Sem Cert.KernelIdeal Cert.KernelIdeal.Gen

variable {F : FTy → Type} [FloatOps F] [Named F]

/-- Four 64-row pieces stacked into one block of 256 rows. -/
def stack (a b c d : FVec F S64x1024 .bf16) : FVec F S256x1024 .bf16 :=
  concatenate S256x1024 0 [⟨S64x1024, a⟩, ⟨S64x1024, b⟩, ⟨S64x1024, c⟩, ⟨S64x1024, d⟩] concatenates_S64x1024_S64x1024_S64x1024_S64x1024_S256x1024_d0

/-- Four pieces read from a `1024×1024` buffer, stacked. -/
def stackA (a b c d : Vec F S64x1024 .bf16) : FVec F S256x1024 .bf16 :=
  stack (shapeCast S64x1024 a shapeCasts_S64x1024_S64x1024) (shapeCast S64x1024 b shapeCasts_S64x1024_S64x1024)
    (shapeCast S64x1024 c shapeCasts_S64x1024_S64x1024) (shapeCast S64x1024 d shapeCasts_S64x1024_S64x1024)

/-- Four pieces read from slots of the travelling buffers, stacked. -/
def stackB (a b c d : Vec F S1x64x1024 .bf16) : FVec F S256x1024 .bf16 :=
  stack (shapeCast S64x1024 a shapeCasts_S1x64x1024_S64x1024) (shapeCast S64x1024 b shapeCasts_S1x64x1024_S64x1024)
    (shapeCast S64x1024 c shapeCasts_S1x64x1024_S64x1024) (shapeCast S64x1024 d shapeCasts_S1x64x1024_S64x1024)

/-- The scaled queries, `x · wq` times the scale. -/
def qall (x wq : Vec F S1024x1024 .bf16) : FVec F S1024x1024 .bf16 :=
  truncf .bf16 (mulf (matmul dot_S1024x1024_S1024x1024_S1024x1024_1_0_0_1_n_n none
      (shapeCast S1024x1024 x shapeCasts_S1024x1024_S1024x1024) (shapeCast S1024x1024 wq shapeCasts_S1024x1024_S1024x1024)
      (constant S1024x1024 .f32 0x00000000#32))
    (broadcast S1024x1024 (Named.named κ "scale" 0x3DB504F3#32 : F .f32))) bitsLt_bf16_f32

/-- The queries of the blocks whose first rows are `a`, `b`, `c` and `d`. -/
def qrow (x wq : Vec F S1024x1024 .bf16) (a b c d : ℕ) (ha : S1024x1024.Slices ![a, 0] S64x1024) (hb : S1024x1024.Slices ![b, 0] S64x1024)
    (hc : S1024x1024.Slices ![c, 0] S64x1024) (hd : S1024x1024.Slices ![d, 0] S64x1024) : FVec F S256x1024 .bf16 :=
  stack (extractStridedSlice S64x1024 ![a, 0] (qall x wq) ha) (extractStridedSlice S64x1024 ![b, 0] (qall x wq) hb)
    (extractStridedSlice S64x1024 ![c, 0] (qall x wq) hc) (extractStridedSlice S64x1024 ![d, 0] (qall x wq) hd)

section head
variable (o : ℕ) (ho : S256x1024.Slices ![0, o] S256x128)

/-- The scores of one head: its columns of the queries against its columns of a block of keys. -/
def scr (q k : FVec F S256x1024 .bf16) : FVec F S256x256 .f32 :=
  matmul dot_S256x128_S256x128_S256x256_1_1_0_0_n_n none (extractStridedSlice S256x128 ![0, o] q ho)
    (extractStridedSlice S256x128 ![0, o] k ho) (constant S256x256 .f32 0x00000000#32)

/-- Each row's greatest entry. -/
def rmax (s : FVec F S256x256 .f32) : FVec F S256x1 .f32 :=
  shapeCast S256x1 (multiReduction .maximumf [1] S256 s 0xFF800000#32 reduces_S256x256_S256 (.inl rfl) rfl) shapeCasts_S256_S256x1

/-- Each row's sum. -/
def rsum (s : FVec F S256x256 .f32) : FVec F S256x1 .f32 :=
  shapeCast S256x1 (multiReduction .add [1] S256 s 0x00000000#32 reduces_S256x256_S256 (.inl rfl) rfl) shapeCasts_S256_S256x1

/-- The weights of a block of scores under the row maxima `m`. -/
def wts (s : FVec F S256x256 .f32) (m : FVec F S256x1 .f32) : FVec F S256x256 .f32 :=
  exp (subf s (broadcastTo S256x256 m broadcasts_S256x1_S256x256))

/-- The weights against the head's columns of a block of values. -/
def pv (w : FVec F S256x256 .f32) (v : FVec F S256x1024 .bf16) : FVec F S256x128 .f32 :=
  matmul dot_S256x256_S256x128_S256x128_1_0_0_1_n_n none (truncf .bf16 w bitsLt_bf16_f32)
    (extractStridedSlice S256x128 ![0, o] v ho) (constant S256x128 .f32 0x00000000#32)

/-- The running maximum after a further block of scores. -/
def mstep (m : FVec F S256x1 .f32) (s : FVec F S256x256 .f32) : FVec F S256x1 .f32 := maximumf m (rmax s)

/-- The factor that carries a running sum from the maximum `m` to the maximum `m'`. -/
def corr (m m' : FVec F S256x1 .f32) : FVec F S256x1 .f32 := exp (subf m m')

/-- The running sum after a further block of scores. -/
def lstep (m : FVec F S256x1 .f32) (l : FVec F S256x1 .f32) (s : FVec F S256x256 .f32) : FVec F S256x1 .f32 :=
  addf (mulf l (corr m (mstep m s))) (rsum (wts s (mstep m s)))

/-- The running weighted values after a further block. -/
def astep (m : FVec F S256x1 .f32) (a : FVec F S256x128 .f32) (s : FVec F S256x256 .f32) (v : FVec F S256x1024 .bf16) : FVec F S256x128 .f32 :=
  addf (mulf a (broadcastTo S256x128 (corr m (mstep m s)) broadcasts_S256x1_S256x128)) (pv o ho (wts s (mstep m s)) v)

variable (q k0 v0 k1 v1 k2 v2 k3 v3 : FVec F S256x1024 .bf16)

def m0 := rmax (scr o ho q k0)
def l0 := rsum (wts (scr o ho q k0) (m0 o ho q k0))
def a0 := pv o ho (wts (scr o ho q k0) (m0 o ho q k0)) v0
def m1 := mstep (m0 o ho q k0) (scr o ho q k1)
def l1 := lstep (m0 o ho q k0) (l0 o ho q k0) (scr o ho q k1)
def a1 := astep o ho (m0 o ho q k0) (a0 o ho q k0 v0) (scr o ho q k1) v1
def m2 := mstep (m1 o ho q k0 k1) (scr o ho q k2)
def l2 := lstep (m1 o ho q k0 k1) (l1 o ho q k0 k1) (scr o ho q k2)
def a2 := astep o ho (m1 o ho q k0 k1) (a1 o ho q k0 v0 k1 v1) (scr o ho q k2) v2
def l3 := lstep (m2 o ho q k0 k1 k2) (l2 o ho q k0 k1 k2) (scr o ho q k3)
def a3 := astep o ho (m2 o ho q k0 k1 k2) (a2 o ho q k0 v0 k1 v1 k2 v2) (scr o ho q k3) v3

/-- One head's result over the four blocks of keys and values. -/
def hd : FVec F S256x128 .f32 :=
  divf (a3 o ho q k0 v0 k1 v1 k2 v2 k3 v3) (broadcastTo S256x128 (l3 o ho q k0 k1 k2 k3) broadcasts_S256x1_S256x128)

end head

/-- The eight heads side by side. -/
def heads (q k0 v0 k1 v1 k2 v2 k3 v3 : FVec F S256x1024 .bf16) : FVec F S256x1024 .bf16 :=
  truncf .bf16 (concatenate S256x1024 1 [
    ⟨S256x128, hd 0 slices_S256x1024_o0_0_S256x128 q k0 v0 k1 v1 k2 v2 k3 v3⟩,
    ⟨S256x128, hd 128 slices_S256x1024_o0_128_S256x128 q k0 v0 k1 v1 k2 v2 k3 v3⟩,
    ⟨S256x128, hd 256 slices_S256x1024_o0_256_S256x128 q k0 v0 k1 v1 k2 v2 k3 v3⟩,
    ⟨S256x128, hd 384 slices_S256x1024_o0_384_S256x128 q k0 v0 k1 v1 k2 v2 k3 v3⟩,
    ⟨S256x128, hd 512 slices_S256x1024_o0_512_S256x128 q k0 v0 k1 v1 k2 v2 k3 v3⟩,
    ⟨S256x128, hd 640 slices_S256x1024_o0_640_S256x128 q k0 v0 k1 v1 k2 v2 k3 v3⟩,
    ⟨S256x128, hd 768 slices_S256x1024_o0_768_S256x128 q k0 v0 k1 v1 k2 v2 k3 v3⟩,
    ⟨S256x128, hd 896 slices_S256x1024_o0_896_S256x128 q k0 v0 k1 v1 k2 v2 k3 v3⟩]
    concatenates_S256x128_S256x128_S256x128_S256x128_S256x128_S256x128_S256x128_S256x128_S256x1024_d1) bitsLt_bf16_f32

/-- Rows `o` to `o + 63` of the results of the four residue classes, in class order. -/
def pick (o : ℕ) (ho : S256x1024.Slices ![o, 0] S64x1024) (r : FVec F S256x1024 .bf16) : FVec F S64x1024 .bf16 :=
  extractStridedSlice S64x1024 ![o, 0] r ho

/-- The four classes' rows put back in place, against the output projection. -/
def proj (r0 r1 r2 r3 : FVec F S256x1024 .bf16) (wo : Vec F S1024x1024 .bf16) : FVec F S1024x1024 .f32 :=
  matmul dot_S1024x1024_S1024x1024_S1024x1024_1_0_0_1_n_n none
    (concatenate S1024x1024 0 [
      ⟨S64x1024, pick 0 slices_S256x1024_o0_0_S64x1024 r0⟩, ⟨S64x1024, pick 0 slices_S256x1024_o0_0_S64x1024 r1⟩,
      ⟨S64x1024, pick 0 slices_S256x1024_o0_0_S64x1024 r2⟩, ⟨S64x1024, pick 0 slices_S256x1024_o0_0_S64x1024 r3⟩,
      ⟨S64x1024, pick 64 slices_S256x1024_o64_0_S64x1024 r0⟩, ⟨S64x1024, pick 64 slices_S256x1024_o64_0_S64x1024 r1⟩,
      ⟨S64x1024, pick 64 slices_S256x1024_o64_0_S64x1024 r2⟩, ⟨S64x1024, pick 64 slices_S256x1024_o64_0_S64x1024 r3⟩,
      ⟨S64x1024, pick 128 slices_S256x1024_o128_0_S64x1024 r0⟩, ⟨S64x1024, pick 128 slices_S256x1024_o128_0_S64x1024 r1⟩,
      ⟨S64x1024, pick 128 slices_S256x1024_o128_0_S64x1024 r2⟩, ⟨S64x1024, pick 128 slices_S256x1024_o128_0_S64x1024 r3⟩,
      ⟨S64x1024, pick 192 slices_S256x1024_o192_0_S64x1024 r0⟩, ⟨S64x1024, pick 192 slices_S256x1024_o192_0_S64x1024 r1⟩,
      ⟨S64x1024, pick 192 slices_S256x1024_o192_0_S64x1024 r2⟩, ⟨S64x1024, pick 192 slices_S256x1024_o192_0_S64x1024 r3⟩]
      concatenates_S64x1024_S64x1024_S64x1024_S64x1024_S64x1024_S64x1024_S64x1024_S64x1024_S64x1024_S64x1024_S64x1024_S64x1024_S64x1024_S64x1024_S64x1024_S64x1024_S1024x1024_d0)
    (shapeCast S1024x1024 wo shapeCasts_S1024x1024_S1024x1024) (constant S1024x1024 .f32 0x00000000#32)

end Cert.KernelIdeal.Attn
-- ==== Proof.Body.lean ====
module

public import proofs.«01_k».proof.Proof.Vals

/-! The kernel's body written once more, out of a few blocks: the start of one transfer, the two
waits of one transfer, and the reads of one residue class's keys and values. The printed body is this
program. -/

@[expose] public section

noncomputable section

namespace Cert.KernelIdeal.Attn

open Idealize.ShloMosaic Idealize.SL.Sem Cert.KernelIdeal Cert.KernelIdeal.Gen

variable {F : FTy → Type} [FloatOps F] [Named F]

variable (F) in
/-- Programs of one core of the kernel. -/
abbrev P := Prog (TpuEff nD τ sig (Elt F) Λ₀ .tc) PUnit

/-- A whole operand of `1024×1024` values. -/
abbrev MA := Memref sig .tc .vmem S1024x1024 .bf16
/-- A travelling buffer of four slots. -/
abbrev MB := Memref sig .tc .vmem S4x512x1024 .bf16
/-- Half an operand, or one slot. -/
abbrev MH := Memref sig .tc .vmem S512x1024 .bf16

/-- Rows `o` to `o + 511` of an operand. -/
def half (m : MA) (o : ℕ) (h : ∀ a, (![o, 0] : Fin 2 → Nat) a + S512x1024.size a ≤ S1024x1024.size a) : MH :=
  m.slice (Rect.unit (s := S1024x1024) ![o, 0] S512x1024.size h) (fun _ => rfl)

/-- Slot `s` of a travelling buffer. -/
def slot (m : MB) (s : ℕ) (h : ∀ a, (![s, 0, 0] : Fin 3 → Nat) a + S1x512x1024.size a ≤ S4x512x1024.size a) : MH :=
  (m.slice (Rect.unit (s := S4x512x1024) ![s, 0, 0] S1x512x1024.size h) (fun _ => rfl)).squeeze S512x1024 squeezes_S1x512x1024_S512x1024

/-- Start a transfer to device `d`, then go on. -/
def start (src dst : MH) (hs : src.view.WordExact) (hd : dst.view.WordExact) (d : Dev nD) (sS sR : DmaSem sig) (κ : P F) : P F :=
  .op (.enqueueDma src (.remote (Dev.tc d) dst (.dma sS)) (.dma sR) hs hd ⟨⟨rfl, Or.inl rfl⟩, trivial⟩) fun _ => κ

/-- Wait until a transfer has left and the one of the same round has arrived, then go on. -/
def waits (src dst : MH) (hs : src.view.WordExact) (hd : dst.view.WordExact) (sS sR : DmaSem sig) (κ : P F) : P F :=
  .op (.waitDma2 sS dst src hd hs) fun _ => .op (.waitDma2 sR src dst hs hd) fun _ => κ

abbrev InA (o : ℕ) : Prop := ∀ a, (![o, 0] : Fin 2 → Nat) a + S64x1024.size a ≤ S1024x1024.size a
abbrev InB (s o : ℕ) : Prop := ∀ a, (![s, o, 0] : Fin 3 → Nat) a + S1x64x1024.size a ≤ S4x512x1024.size a

/-- Read 64 rows of an operand. -/
def readA (m : MA) (o : ℕ) (h : InA o) (κ : Vec F S64x1024 .bf16 → P F) : P F :=
  .op (.load m (Rect.unit (s := S1024x1024) ![o, 0] S64x1024.size h).toLoadRect (View.loadsAt_vmem h_S64x1024)) κ

/-- Read 64 rows of a slot. -/
def readB (m : MB) (s o : ℕ) (h : InB s o) (κ : Vec F S1x64x1024 .bf16 → P F) : P F :=
  .op (.load m (Rect.unit (s := S4x512x1024) ![s, o, 0] S1x64x1024.size h).toLoadRect (View.loadsAt_vmem h_S1x64x1024)) κ

/-- Read four pieces of an operand and stack them. -/
def read4 (m : MA) (a b c d : ℕ) (ha : InA a) (hb : InA b) (hc : InA c) (hd : InA d) (κ : FVec F S256x1024 .bf16 → P F) : P F :=
  readA m a ha fun u => readA m b hb fun v => readA m c hc fun w => readA m d hd fun z => κ (stackA u v w z)

/-- Read two pieces of one buffer's slot and two of another's and stack them. -/
def read22 (m m' : MB) (s a b : ℕ) (ha : InB s a) (hb : InB s b) (κ : FVec F S256x1024 .bf16 → P F) : P F :=
  readB m s a ha fun u => readB m s b hb fun v => readB m' s a ha fun w => readB m' s b hb fun z => κ (stackB u v w z)

/-- Read a whole operand. -/
def readW {e : EltTy} (m : Memref sig .tc .vmem S1024x1024 e) (κ : Vec F S1024x1024 e → P F) : P F :=
  .op (.load m (Rect.unit (s := S1024x1024) ![0, 0] S1024x1024.size inb_S1024x1024_S1024x1024_0_0).toLoadRect (View.loadsAt_vmem h_S1024x1024)) κ

theorem inA (o : ℕ) (h : o ≤ 960) : InA o := by
  intro a; fin_cases a
  · show o + 64 ≤ 1024; omega
  · show 0 + 1024 ≤ 1024; omega

theorem inB (s o : ℕ) (hs : s ≤ 3) (h : o ≤ 448) : InB s o := by
  intro a; fin_cases a
  · show s + 1 ≤ 4; omega
  · show o + 64 ≤ 512; omega
  · show 0 + 1024 ≤ 1024; omega

theorem inH (o : ℕ) (h : o ≤ 512) : ∀ a, (![o, 0] : Fin 2 → Nat) a + S512x1024.size a ≤ S1024x1024.size a := by
  intro a; fin_cases a
  · show o + 512 ≤ 1024; omega
  · show 0 + 1024 ≤ 1024; omega

theorem inS (s : ℕ) (h : s ≤ 3) : ∀ a, (![s, 0, 0] : Fin 3 → Nat) a + S1x512x1024.size a ≤ S4x512x1024.size a := by
  intro a; fin_cases a
  · show s + 1 ≤ 4; omega
  · show 0 + 512 ≤ 512; omega
  · show 0 + 1024 ≤ 1024; omega

/-- Read class `rr`'s own keys and values. -/
def ldA (k v : MA) (rr : ℕ) (hr : rr ≤ 3) (κ : FVec F S256x1024 .bf16 → FVec F S256x1024 .bf16 → P F) : P F :=
  read4 k (rr * 64) (rr * 64 + 256) (rr * 64 + 512) (rr * 64 + 768) (inA _ (by omega)) (inA _ (by omega)) (inA _ (by omega)) (inA _ (by omega)) fun K =>
  read4 v (rr * 64) (rr * 64 + 256) (rr * 64 + 512) (rr * 64 + 768) (inA _ (by omega)) (inA _ (by omega)) (inA _ (by omega)) (inA _ (by omega)) fun V => κ K V

/-- Read class `rr`'s keys and values out of slot `s`. -/
def ldB (ka va kb vb : MB) (s rr : ℕ) (hs : s ≤ 3) (hr : rr ≤ 3) (κ : FVec F S256x1024 .bf16 → FVec F S256x1024 .bf16 → P F) : P F :=
  read22 ka kb s (rr * 64) (rr * 64 + 256) (inB _ _ hs (by omega)) (inB _ _ hs (by omega)) fun K =>
  read22 va vb s (rr * 64) (rr * 64 + 256) (inB _ _ hs (by omega)) (inB _ _ hs (by omega)) fun V => κ K V

/-- The operand buffer `b` starts from: the keys for the even buffers, the values for the odd. -/
def opM (b : Fin 4) : MA := match b with
  | 0 => Memref.whole cc0_stg2_0 | 1 => Memref.whole cc0_stg3_0 | 2 => Memref.whole cc0_stg2_0 | 3 => Memref.whole cc0_stg3_0

/-- The half of it that travels: the upper rows to the right, the lower rows to the left. -/
def off (b : Fin 4) : ℕ := match b with | 0 => 0 | 1 => 0 | 2 => 512 | 3 => 512

/-- The travelling buffers. -/
def bufM (b : Fin 4) : MB := match b with
  | 0 => Memref.whole cc0_scratch0 | 1 => Memref.whole cc0_scratch1 | 2 => Memref.whole cc0_scratch2 | 3 => Memref.whole cc0_scratch3

theorem opM_whole (b : Fin 4) : (opM b).IsWhole := match b with
  | 0 => Memref.isWhole_whole _ | 1 => Memref.isWhole_whole _ | 2 => Memref.isWhole_whole _ | 3 => Memref.isWhole_whole _
theorem bufM_whole (b : Fin 4) : (bufM b).IsWhole := match b with
  | 0 => Memref.isWhole_whole _ | 1 => Memref.isWhole_whole _ | 2 => Memref.isWhole_whole _ | 3 => Memref.isWhole_whole _
theorem off_or (b : Fin 4) : off b = 0 ∨ off b = 512 := match b with | 0 => .inl rfl | 1 => .inl rfl | 2 => .inr rfl | 3 => .inr rfl
theorem off_le (b : Fin 4) : off b ≤ 512 := by have := off_or b; omega

theorem half_exact {m : MA} (hm : m.IsWhole) (o : ℕ) (ho : o = 0 ∨ o = 512) (h) : (half m o h).view.WordExact := by
  rcases ho with rfl | rfl
  · exact hm.wordExact_slice rfl _ wordsbf16_S1024x1024_S512x1024_0_0
  · exact hm.wordExact_slice rfl _ wordsbf16_S1024x1024_S512x1024_512_0

theorem slot_exact {m : MB} (hm : m.IsWhole) (s : ℕ) (h1 : 1 ≤ s) (h3 : s ≤ 3) (h) : (slot m s h).view.WordExact := by
  obtain rfl | rfl | rfl : s = 1 ∨ s = 2 ∨ s = 3 := by omega
  · exact (hm.wordExact_slice rfl _ wordsbf16_S4x512x1024_S1x512x1024_1_0_0).reshape _ _
  · exact (hm.wordExact_slice rfl _ wordsbf16_S4x512x1024_S1x512x1024_2_0_0).reshape _ _
  · exact (hm.wordExact_slice rfl _ wordsbf16_S4x512x1024_S1x512x1024_3_0_0).reshape _ _

/-- Where transfer `h` of buffer `b` lands: slot `h + 1`. -/
def dstM (b : Fin 4) (h : Fin 3) : MH := slot (bufM b) (h.val + 1) (inS _ (by omega))

/-- Where it comes from: the operand's half the first time, then the slot the last transfer filled. -/
def srcM (b : Fin 4) (h : Fin 3) : MH := match h with
  | 0 => half (opM b) (off b) (inH _ (off_le b)) | 1 => dstM b 0 | 2 => dstM b 1

theorem dst_exact (b : Fin 4) (h : Fin 3) : (dstM b h).view.WordExact := slot_exact (bufM_whole b) _ (by omega) (by omega) _
theorem src_exact (b : Fin 4) (h : Fin 3) : (srcM b h).view.WordExact := match h with
  | 0 => half_exact (opM_whole b) _ (off_or b) _ | 1 => dst_exact b 0 | 2 => dst_exact b 1

/-- The semaphore transfer `h` of buffer `b` credits where it leaves, -/
def sS (b : Fin 4) (h : Fin 3) : DmaSem sig := ⟨6 + (8 * b.val + h.val), by have := b.2; have := h.2; show _ < 38; omega⟩
/-- and the one it credits where it lands. -/
def sR (b : Fin 4) (h : Fin 3) : DmaSem sig := ⟨6 + (8 * b.val + 4 + (h.val + 1)), by have := b.2; have := h.2; show _ < 38; omega⟩

/-- Start transfer `h` of buffer `b`, to device `d`. -/
def sendX (b : Fin 4) (h : Fin 3) (d : Dev nD) (κ : P F) : P F := start (srcM b h) (dstM b h) (src_exact b h) (dst_exact b h) d (sS b h) (sR b h) κ

/-- Wait for transfer `h` of buffer `b`: the one that left and the one that arrives. -/
def waitX (b : Fin 4) (h : Fin 3) (κ : P F) : P F := waits (srcM b h) (dstM b h) (src_exact b h) (dst_exact b h) (sS b h) (sR b h) κ

/-- The four classes' queries. -/
def q0 (x wq : Vec F S1024x1024 .bf16) := qrow x wq 0 256 512 768 slices_S1024x1024_o0_0_S64x1024 slices_S1024x1024_o256_0_S64x1024 slices_S1024x1024_o512_0_S64x1024 slices_S1024x1024_o768_0_S64x1024
def q1 (x wq : Vec F S1024x1024 .bf16) := qrow x wq 64 320 576 832 slices_S1024x1024_o64_0_S64x1024 slices_S1024x1024_o320_0_S64x1024 slices_S1024x1024_o576_0_S64x1024 slices_S1024x1024_o832_0_S64x1024
def q2 (x wq : Vec F S1024x1024 .bf16) := qrow x wq 128 384 640 896 slices_S1024x1024_o128_0_S64x1024 slices_S1024x1024_o384_0_S64x1024 slices_S1024x1024_o640_0_S64x1024 slices_S1024x1024_o896_0_S64x1024
def q3 (x wq : Vec F S1024x1024 .bf16) := qrow x wq 192 448 704 960 slices_S1024x1024_o192_0_S64x1024 slices_S1024x1024_o448_0_S64x1024 slices_S1024x1024_o704_0_S64x1024 slices_S1024x1024_o960_0_S64x1024

/-- The barrier semaphore. -/
abbrev barS : Sem sig := (SemArray.scalar (sig.barrier 0 rfl) : Sems sig S_).sem

/-- Meet both neighbours. -/
def meet (l r : Dev nD) (κ : P F) : P F :=
  .op (.semSignal (l, .tc) barS (1#32 : BitVec 32).toInt) fun _ => .op (.semSignal (r, .tc) barS (1#32 : BitVec 32).toInt) fun _ =>
  .op (.semWait barS (2#32 : BitVec 32).toInt) fun _ => κ

/-- The four first transfers. -/
def sends0 (r1 r2 l1 l2 : Dev nD) (κ : P F) : P F := sendX 0 0 r1 <| sendX 1 0 r2 <| sendX 2 0 l1 <| sendX 3 0 l2 κ

/-- The end of the transfers `h`, each passed on at once as transfer `h'`. -/
def turn (h h' : Fin 3) (r1 l1 r2 l2 : Dev nD) (κ : P F) : P F :=
  waitX 0 h <| sendX 0 h' r1 <| waitX 2 h <| sendX 2 h' l1 <| waitX 1 h <| sendX 1 h' r2 <| waitX 3 h <| sendX 3 h' l2 κ

/-- The end of the last transfers. -/
def lastTurn (κ : P F) : P F := waitX 0 2 <| waitX 2 2 <| waitX 1 2 <| waitX 3 2 κ

/-- The last reads and the store of the projected output. -/
def finish (out : Vec F S1024x1024 .bf16 → FVec F S1024x1024 .f32) : P F :=
  readW (Memref.whole cc0_stg4_0) fun wo => readW (Memref.whole cc0_stg5_0) fun _ =>
  .op (.store (Memref.whole cc0_stg5_0) (Rect.unit (s := S1024x1024) ![0, 0] S1024x1024.size inb_S1024x1024_S1024x1024_0_0) (out wo) Finset.univ
    (View.stores_vmem_bits_univ h_S1024x1024 rfl) (.inl rfl)) fun _ => .ret ⟨⟩

/-- All four classes' keys and values of the device itself. -/
def allA (κ : FVec F S256x1024 .bf16 → FVec F S256x1024 .bf16 → FVec F S256x1024 .bf16 → FVec F S256x1024 .bf16 →
    FVec F S256x1024 .bf16 → FVec F S256x1024 .bf16 → FVec F S256x1024 .bf16 → FVec F S256x1024 .bf16 → P F) : P F :=
  ldA (opM 0) (opM 1) 0 (by omega) fun k0 v0 => ldA (opM 0) (opM 1) 1 (by omega) fun k1 v1 =>
  ldA (opM 0) (opM 1) 2 (by omega) fun k2 v2 => ldA (opM 0) (opM 1) 3 (by omega) fun k3 v3 => κ k0 v0 k1 v1 k2 v2 k3 v3

/-- All four classes' keys and values of slot `s`. -/
def allB (s : ℕ) (hs : s ≤ 3) (κ : FVec F S256x1024 .bf16 → FVec F S256x1024 .bf16 → FVec F S256x1024 .bf16 → FVec F S256x1024 .bf16 →
    FVec F S256x1024 .bf16 → FVec F S256x1024 .bf16 → FVec F S256x1024 .bf16 → FVec F S256x1024 .bf16 → P F) : P F :=
  ldB (bufM 0) (bufM 1) (bufM 2) (bufM 3) s 0 hs (by omega) fun k0 v0 => ldB (bufM 0) (bufM 1) (bufM 2) (bufM 3) s 1 hs (by omega) fun k1 v1 =>
  ldB (bufM 0) (bufM 1) (bufM 2) (bufM 3) s 2 hs (by omega) fun k2 v2 => ldB (bufM 0) (bufM 1) (bufM 2) (bufM 3) s 3 hs (by omega) fun k3 v3 =>
  κ k0 v0 k1 v1 k2 v2 k3 v3

/-- The body. -/
def body : P F :=
  .op .deviceId fun d =>
  meet ⟨k0_dev1 d, k0_dev1_lt d⟩ ⟨k0_dev2 d, k0_dev2_lt d⟩ <|
  sends0 ⟨k0_dev3 d, k0_dev3_lt d⟩ ⟨k0_dev4 d, k0_dev4_lt d⟩ ⟨k0_dev5 d, k0_dev5_lt d⟩ ⟨k0_dev6 d, k0_dev6_lt d⟩ <|
  readW (Memref.whole cc0_stg0_0) fun x => readW (Memref.whole cc0_stg1_0) fun wq =>
  allA fun k00 v00 k01 v01 k02 v02 k03 v03 =>
  turn 0 1 ⟨k0_dev7 d, k0_dev7_lt d⟩ ⟨k0_dev8 d, k0_dev8_lt d⟩ ⟨k0_dev9 d, k0_dev9_lt d⟩ ⟨k0_dev10 d, k0_dev10_lt d⟩ <|
  allB 1 (by omega) fun k10 v10 k11 v11 k12 v12 k13 v13 =>
  turn 1 2 ⟨k0_dev11 d, k0_dev11_lt d⟩ ⟨k0_dev12 d, k0_dev12_lt d⟩ ⟨k0_dev13 d, k0_dev13_lt d⟩ ⟨k0_dev14 d, k0_dev14_lt d⟩ <|
  allB 2 (by omega) fun k20 v20 k21 v21 k22 v22 k23 v23 =>
  lastTurn <|
  allB 3 (by omega) fun k30 v30 k31 v31 k32 v32 k33 v33 =>
  finish fun wo => proj (heads (q0 x wq) k00 v00 k10 v10 k20 v20 k30 v30) (heads (q1 x wq) k01 v01 k11 v11 k21 v21 k31 v31)
    (heads (q2 x wq) k02 v02 k12 v12 k22 v22 k32 v32) (heads (q3 x wq) k03 v03 k13 v13 k23 v23 k33 v33) wo

end Cert.KernelIdeal.Attn
-- ==== Proof.Protocol.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

/-! The protocol of the four devices: who pays which semaphore, how much, in what order, and what each
payment hands over, with the contents.

Two buffers travel to the right, two to the left. Transfer `h` of buffer `b` goes from device `c` to
`fw b c`, into slot `h + 1` there; it credits one semaphore of `c` when it has left and one of the
receiver when it has arrived. What arrives on `c` is the half operand of the device `h + 1` steps back.
The barrier gives a device the three slots it will write on each neighbour. -/

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The protocol's tokens, beside those of the staging library. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero. -/
def s₀ : MemSt nD τ sig (Elt F) := ⟨m, fun _ => 0, ρ⟩

/-! ## The devices -/

set_option backward.proofsInPublic true in
/-- The right neighbour, -/
def nxt (c : Dev nD) : Dev nD := ⟨(c.val + 1) % 4, Nat.mod_lt _ (by decide)⟩
set_option backward.proofsInPublic true in
/-- and the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Where buffer `b` goes from `c`, -/
def fw (b : Fin 4) (c : Dev nD) : Dev nD := if b.val < 2 then nxt c else prv c
/-- and where it comes from. -/
def bk (b : Fin 4) (c : Dev nD) : Dev nD := if b.val < 2 then prv c else nxt c

theorem bk_fw (b : Fin 4) (c : Dev nD) : bk b (fw b c) = c := by revert b c; decide
theorem fw_bk (b : Fin 4) (c : Dev nD) : fw b (bk b c) = c := by revert b c; decide

/-- Buffer `b`'s travel is a bijection of the devices. -/
def travel (b : Fin 4) : Dev nD ≃ Dev nD := ⟨fw b, bk b, bk_fw b, fw_bk b⟩
/-- So is a step to the right. -/
def step : Dev nD ≃ Dev nD := ⟨nxt, prv, prv_nxt, nxt_prv⟩

/-- The device `h` steps back along buffer `b`'s way. -/
def org (b : Fin 4) : ℕ → Dev nD → Dev nD
  | 0, c => c
  | h + 1, c => org b h (bk b c)

/-! ## The cells -/

abbrev barCell (c : Dev nD) : GSem nD τ sig := ((c : Thread nD τ), .reg barS)
abbrev outCell (c : Dev nD) (b : Fin 4) (h : Fin 3) : GSem nD τ sig := ((c : Thread nD τ), .dma (sS b h))
abbrev inCell (c : Dev nD) (b : Fin 4) (h : Fin 3) : GSem nD τ sig := ((c : Thread nD τ), .dma (sR b h))

/-- What a semaphore is for. -/
inductive Role where
  | bar
  | out (b : Fin 4) (h : Fin 3)
  | inn (b : Fin 4) (h : Fin 3)
  | idle

/-- The use of transfer semaphore number `q`. -/
def dmaRole (q : ℕ) : Role :=
  if q < 6 then .idle
  else if (q - 6) % 8 < 3 then .out ⟨(q - 6) / 8 % 4, Nat.mod_lt _ (by decide)⟩ ⟨(q - 6) % 8 % 3, Nat.mod_lt _ (by decide)⟩
  else if 5 ≤ (q - 6) % 8 then .inn ⟨(q - 6) / 8 % 4, Nat.mod_lt _ (by decide)⟩ ⟨((q - 6) % 8 - 5) % 3, Nat.mod_lt _ (by decide)⟩
  else .idle

/-- The use of a semaphore. -/
def role : SemLoc sig → Role
  | .reg s => if s = barS then .bar else .idle
  | .dma q => dmaRole q.val

theorem role_bar : role (.reg barS) = .bar := by unfold role; exact if_pos rfl
theorem role_out (b : Fin 4) (h : Fin 3) : role (.dma (sS b h)) = .out b h := by fin_cases b <;> fin_cases h <;> rfl
theorem role_in (b : Fin 4) (h : Fin 3) : role (.dma (sR b h)) = .inn b h := by fin_cases b <;> fin_cases h <;> rfl

/-- What one transfer credits. -/
abbrev N : ℕ := (dstM 0 0).view.dmaCredit
theorem N_pos : 0 < N := View.dmaCredit_pos _ (by decide)
theorem credit_dst (b : Fin 4) (h : Fin 3) : (dstM b h).view.dmaCredit = N := by fin_cases b <;> fin_cases h <;> rfl
theorem credit_src (b : Fin 4) (h : Fin 3) : (srcM b h).view.dmaCredit = N := by fin_cases b <;> fin_cases h <;> rfl

/-! ## The contents -/

/-- Device `c`'s keys, -/
def kst (c : Dev nD) : Vec F S1024x1024 .bf16 := (win0_2.blk (0 : Fin 1)).view.read (Elt F) ((s₀ m ρ).mem ((c : Thread nD τ).loc main_arg2))
/-- and values. -/
def vst (c : Dev nD) : Vec F S1024x1024 .bf16 := (win0_3.blk (0 : Fin 1)).view.read (Elt F) ((s₀ m ρ).mem ((c : Thread nD τ).loc main_arg3))

/-- The operand buffer `b` starts from on device `c`. -/
def opV (c : Dev nD) (b : Fin 4) : Vec F S1024x1024 .bf16 := match b with
  | 0 => kst m ρ c | 1 => vst m ρ c | 2 => kst m ρ c | 3 => vst m ρ c

/-- The rectangle of an operand's half. -/
abbrev halfR (o : ℕ) (h : o ≤ 512) : Rect S1024x1024 := Rect.unit (s := S1024x1024) ![o, 0] S512x1024.size (inH o h)

/-- The half of it that travels. -/
def chunk (c : Dev nD) (b : Fin 4) : Vec F S512x1024 .bf16 := fun i => opV m ρ c b ((halfR (off b) (off_le b)).emb i)

/-! ## The payments -/

/-- Slot `h + 1` of buffer `b` of device `c`, at any contents. -/
def any (c : Dev nD) (b : Fin 4) (h : Fin 3) : sProp 𝕄 := iprop(∃ f, (dstM b h).view.loc (c : Thread nD τ) ↦[(dstM b h).view.set]{fullShare} f)
/-- The three slots of buffer `b` that are written from outside. -/
def give (c : Dev nD) (b : Fin 4) : sProp 𝕄 := iprop(any c b 0 ∗ any c b 1 ∗ any c b 2)

/-- What a neighbour's signal hands `c`: the left one's slots (`true`), or the right one's. -/
def barPay (c : Dev nD) (d : Bool) : sProp 𝕄 :=
  if d then iprop(give (prv c) 2 ∗ give (prv c) 3) else iprop(give (nxt c) 0 ∗ give (nxt c) 1)
/-- What the end of a departure hands back: the half share of the source. -/
def outPay (c : Dev nD) (b : Fin 4) (h : Fin 3) : sProp 𝕄 := owns (c : Thread nD τ) (srcM b h) fullShare.right (chunk m ρ (org b h.val c) b)
/-- What an arrival hands over: the slot with the half operand of the device `h + 1` steps back. -/
def inPay (c : Dev nD) (b : Fin 4) (h : Fin 3) : sProp 𝕄 := owns (c : Thread nD τ) (dstM b h) fullShare (chunk m ρ (org b (h.val + 1) c) b)

instance any_storable (c : Dev nD) (b : Fin 4) (h : Fin 3) : BI.Storable (upEmb : UEmb _ 𝕄) (any (F := F) c b h) := by unfold any; infer_instance
instance give_storable (c : Dev nD) (b : Fin 4) : BI.Storable (upEmb : UEmb _ 𝕄) (give (F := F) c b) := by unfold give; infer_instance
instance barPay_storable (c : Dev nD) (d : Bool) : BI.Storable (upEmb : UEmb _ 𝕄) (barPay (F := F) c d) := by
  unfold barPay; split <;> infer_instance
instance outPay_storable (c : Dev nD) (b : Fin 4) (h : Fin 3) : BI.Storable (upEmb : UEmb _ 𝕄) (outPay (F := F) m ρ c b h) := by unfold outPay; infer_instance
instance inPay_storable (c : Dev nD) (b : Fin 4) (h : Fin 3) : BI.Storable (upEmb : UEmb _ 𝕄) (inPay (F := F) m ρ c b h) := by unfold inPay; infer_instance

/-- The duties of a use. -/
def dutiesOf : Role → Finset Bool
  | .bar => Finset.univ
  | .out _ _ => {false}
  | .inn _ _ => {false}
  | .idle => ∅

/-- What a duty of a use hands device `c`. -/
def payOf (c : Dev nD) (d : Bool) : Role → sProp 𝕄
  | .bar => barPay c d
  | .out b h => outPay m ρ c b h
  | .inn b h => inPay m ρ c b h
  | .idle => iprop(emp)

/-- The units of a duty of a use. -/
def amountOfRole : Role → ℕ
  | .bar => 1
  | _ => N

/-- One round: each barrier has two duties of one unit, each transfer semaphore one duty of a transfer's credit. -/
def plan : Rounds.Schedule (GSem nD τ sig) Bool 𝕄 where
  duties g r := if r = 0 ∧ g.1.2 = .tc then dutiesOf (role g.2) else ∅
  unitless _ := False
  amount g _ _ := amountOfRole (role g.2)
  payload g _ d := payOf m ρ g.1.1 d (role g.2)
  amount_pos g _ _ _ := by
    cases role g.2
    · exact Nat.one_pos
    all_goals exact N_pos

instance plan_storable (g : GSem nD τ sig) (r : ℕ) (d : Bool) : BI.Storable (upEmb : UEmb _ 𝕄) ((plan (F := F) m ρ).payload g r d) := by
  show BI.Storable upEmb (payOf m ρ g.1.1 d (role g.2))
  cases role g.2 <;> (unfold payOf; infer_instance)

section Sched
variable (c : Dev nD) (b : Fin 4) (h : Fin 3)

theorem duties_bar : (plan (F := F) m ρ).duties (barCell c) 0 = Finset.univ := by
  dsimp only [plan]; rw [if_pos ⟨rfl, rfl⟩, role_bar]; rfl
theorem duties_out : (plan (F := F) m ρ).duties (outCell c b h) 0 = {false} := by
  dsimp only [plan]; rw [if_pos ⟨rfl, rfl⟩, role_out]; rfl
theorem duties_in : (plan (F := F) m ρ).duties (inCell c b h) 0 = {false} := by
  dsimp only [plan]; rw [if_pos ⟨rfl, rfl⟩, role_in]; rfl
theorem duties_later (g : GSem nD τ sig) : ∀ r, 1 ≤ r → (plan (F := F) m ρ).duties g r = ∅ :=
  fun r hr => by dsimp only [plan]; rw [if_neg fun h => by omega]
theorem duties_idle (g : GSem nD τ sig) (hg : role g.2 = .idle) : ∀ r, 0 ≤ r → (plan (F := F) m ρ).duties g r = ∅ :=
  fun r _ => by dsimp only [plan]; rw [hg]; exact ite_self _

theorem amount_bar (d : Bool) : (plan (F := F) m ρ).amount (barCell c) 0 d = 1 := by dsimp only [plan]; rw [role_bar]; rfl
theorem amount_out (d : Bool) : (plan (F := F) m ρ).amount (outCell c b h) 0 d = N := by dsimp only [plan]; rw [role_out]; rfl
theorem amount_in (d : Bool) : (plan (F := F) m ρ).amount (inCell c b h) 0 d = N := by dsimp only [plan]; rw [role_in]; rfl

theorem expect_bar : (plan (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_out : (plan (F := F) m ρ).expect (outCell c b h) 0 = N := by
  unfold Schedule.expect Schedule.amountOf; rw [duties_out, Finset.sum_singleton, amount_out]
theorem expect_in : (plan (F := F) m ρ).expect (inCell c b h) 0 = N := by
  unfold Schedule.expect Schedule.amountOf; rw [duties_in, Finset.sum_singleton, amount_in]

theorem payload_bar (d : Bool) : (plan (F := F) m ρ).payload (barCell c) 0 d = barPay c d := by dsimp only [plan]; rw [role_bar]; rfl
theorem payload_out (d : Bool) : (plan (F := F) m ρ).payload (outCell c b h) 0 d = outPay m ρ c b h := by dsimp only [plan]; rw [role_out]; rfl
theorem payload_in (d : Bool) : (plan (F := F) m ρ).payload (inCell c b h) 0 d = inPay m ρ c b h := by dsimp only [plan]; rw [role_in]; rfl

/-- The rest of a barrier's round: both neighbours' slots. -/
theorem rest_bar : bigSep ((plan (F := F) m ρ).duties (barCell c) 0 \ ∅) (fun d => (plan (F := F) m ρ).payload (barCell c) 0 d)
    = iprop((give (nxt c) 0 ∗ give (nxt c) 1) ∗ (give (prv c) 2 ∗ give (prv c) 3)) := by
  rw [Finset.sdiff_empty, duties_bar, bigSep_univ_eq_bigSepL [false, true] (by decide) (by decide), bigSepL_cons_cons, bigSepL_singleton,
    payload_bar, payload_bar]
  rfl
theorem rest_out : bigSep ((plan (F := F) m ρ).duties (outCell c b h) 0 \ ∅) (fun d => (plan (F := F) m ρ).payload (outCell c b h) 0 d) = outPay m ρ c b h := by
  rw [Finset.sdiff_empty, duties_out, bigSep_singleton, payload_out]
theorem rest_in : bigSep ((plan (F := F) m ρ).duties (inCell c b h) 0 \ ∅) (fun d => (plan (F := F) m ρ).payload (inCell c b h) 0 d) = inPay m ρ c b h := by
  rw [Finset.sdiff_empty, duties_in, bigSep_singleton, payload_in]

end Sched

/-! ## What a device owes; the levels -/

/-- Device `c`'s transfers in program order. -/
def order : List (Fin 4 × Fin 3) := [(0, 0), (1, 0), (2, 0), (3, 0), (0, 1), (2, 1), (1, 1), (3, 1), (0, 2), (2, 2), (1, 2), (3, 2)]

/-- What `c` owes before the transfers of a list: each one's credit, where it arrives. -/
def OW (c : Dev nD) : List (Fin 4 × Fin 3) → CellTallies nD τ sig Unit
  | [] => 0
  | t :: l => OW c l + tallyAt (inCell (fw t.1 c) t.1 t.2) () N

/-- What it owes after its first signal, -/
def O₁ (c : Dev nD) : CellTallies nD τ sig Unit := OW c order + tallyAt (barCell (nxt c)) () 1
/-- and at the start. -/
def O₀ (c : Dev nD) : CellTallies nD τ sig Unit := O₁ c + tallyAt (barCell (prv c)) () 1

def L (g : GSem nD τ sig) : Finset Unit := if g.1.2 = .tc then {()} else ∅
/-- Departures and staging lowest, then the barrier, then the arrivals by transfer. -/
def lvOf : Role → ℕ
  | .bar => 1
  | .inn _ h => 2 + h.val
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem OW_pos {c : Dev nD} {l : List (Fin 4 × Fin 3)} {g : GSem nD τ sig} {u : Unit} (h : 0 < OW c l g u) :
    ∃ t ∈ l, g = inCell (fw t.1 c) t.1 t.2 := by
  induction l with
  | nil => exact absurd h (Nat.lt_irrefl 0)
  | cons t l ih =>
    unfold OW at h
    rw [Pi.add_apply, Finsupp.add_apply, tallyAt_apply] at h
    by_cases hg : g = inCell (fw t.1 c) t.1 t.2
    · exact ⟨t, List.mem_cons_self, hg⟩
    · rw [if_neg (fun h' => hg h'.1), Nat.add_zero] at h
      obtain ⟨t', ht', e⟩ := ih h
      exact ⟨t', List.mem_cons_of_mem _ ht', e⟩

theorem O₀_pos {c : Dev nD} {g : GSem nD τ sig} {u : Unit} (h : 0 < O₀ c g u) :
    (∃ t ∈ order, g = inCell (fw t.1 c) t.1 t.2) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 (OW_pos (by simpa using h))

/-- A wait at a level below every arrival still owed is allowed. -/
theorem mayWait_low (c : Dev nD) (sm : SemLoc sig) (l : List (Fin 4 × Fin 3)) (hl : ∀ t ∈ l, lvOf (role sm) < 2 + t.2.val) :
    (levAts L lv : sProp 𝕄) ⊢ MayWait (c : Thread nD τ) sm () (OW c l) :=
  MayOwe.of_cut (L := L) (lev := lv) (lvOf (role sm)) (fun p hp => by rw [Finset.mem_singleton.mp hp, L_tc]; exact Finset.mem_singleton_self _)
    (fun g u hg => by obtain ⟨t, _, rfl⟩ := OW_pos hg; rw [L_tc]; exact Finset.mem_singleton_self _)
    (fun p hp => by rw [Finset.mem_singleton.mp hp]; exact le_rfl)
    (fun g u hg => by
      obtain ⟨t, ht, rfl⟩ := OW_pos hg
      dsimp only [lv]; rw [role_in]; exact hl t ht)

/-- A staging semaphore may be waited on at the start, -/
theorem mayWait_stage₀ (c : Dev nD) (sm : SemLoc sig) (hs : lvOf (role sm) = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨t, _, rfl⟩ | rfl | rfl <;> (rw [L_tc]; exact Finset.mem_singleton_self _))
    (fun p hp => by rw [Finset.mem_singleton.mp hp]; exact le_of_eq hs)
    (fun g u hg => by
      rcases O₀_pos hg with ⟨t, _, rfl⟩ | rfl | rfl
      · dsimp only [lv]; rw [role_in]; exact Nat.lt_of_lt_of_le Nat.two_pos (Nat.le_add_right _ _)
      · dsimp only [lv]; rw [role_bar]; exact Nat.one_pos
      · dsimp only [lv]; rw [role_bar]; exact Nat.one_pos)

/-- and anything once nothing is owed. -/
theorem mayWait_zero (c : Dev nD) (sm : SemLoc sig) : (levAts L lv : sProp 𝕄) ⊢ MayWait (c : Thread nD τ) sm () 0 := by
  rw [MayWait_zero]; iintro -; iempintro

end Cert.KernelIdeal.Attn
-- ==== Proof.Steps.lean ====
module

public import proofs.«01_k».proof.Proof.Protocol

/-! One transfer's start and its two waits, each once, at any device, buffer and transfer number; the
meeting with the neighbours. -/

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells as one family -/

/-- The kernel's own semaphores: buffer, departure or arrival, slot. -/
abbrev OI := Fin 4 × Fin 2 × Fin 4
/-- The cells of one device: the barrier, then those. -/
abbrev CI := Option OI

/-- An own semaphore's place, -/
abbrev osem (j : OI) : SemLoc sig :=
  .dma ⟨6 + (8 * j.1.val + 4 * j.2.1.val + j.2.2.val), by have := j.1.2; have := j.2.1.2; have := j.2.2.2; show _ < 38; omega⟩
/-- and any cell's. -/
abbrev csem : CI → SemLoc sig
  | none => .reg barS
  | some j => osem j
abbrev kcell (ck : Dev nD × CI) : GSem nD τ sig := ((ck.1 : Thread nD τ), csem ck.2)

/-- The departure cell of a transfer in the family, -/
abbrev co (b : Fin 4) (h : Fin 3) : CI := some (b, 0, h.castSucc)
/-- and the arrival cell. -/
abbrev ci (b : Fin 4) (h : Fin 3) : CI := some (b, 1, h.succ)

theorem kcell_out (c : Dev nD) (b : Fin 4) (h : Fin 3) : kcell (c, co b h) = outCell c b h := by fin_cases b <;> fin_cases h <;> rfl
theorem kcell_in (c : Dev nD) (b : Fin 4) (h : Fin 3) : kcell (c, ci b h) = inCell c b h := by fin_cases b <;> fin_cases h <;> rfl

/-- Every cell's invariant and that every cell is in its first round. -/
def records (K : Dev nD × CI → ℕ) : sProp 𝕄 :=
  iprop((bigSep Finset.univ fun ck : Dev nD × CI => cellInv ER (plan m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (plan m ρ) (K ck) (kcell ck) := by
  have h : (bigSep Finset.univ fun ck : Dev nD × CI => (cellInv ER (plan m ρ) (K ck) (kcell ck) : sProp 𝕄)) ⊢ cellInv ER (plan m ρ) (K ck) (kcell ck) :=
    bigSep_elim (Finset.mem_univ ck)
  unfold records; iintro ⟨H, -⟩
  iapply h; iexact H
theorem reached_at (K : Dev nD × CI → ℕ) (ck : Dev nD × CI) : records m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩
  iapply h; iexact H

theorem inv_out (K : Dev nD × CI → ℕ) (c : Dev nD) (b : Fin 4) (h : Fin 3) :
    records m ρ K ⊢ cellInv ER (plan m ρ) (K (c, co b h)) (outCell c b h) := by rw [← kcell_out]; exact inv_at m ρ K _
theorem inv_in (K : Dev nD × CI → ℕ) (c : Dev nD) (b : Fin 4) (h : Fin 3) :
    records m ρ K ⊢ cellInv ER (plan m ρ) (K (c, ci b h)) (inCell c b h) := by rw [← kcell_in]; exact inv_at m ρ K _
theorem reached_out (K : Dev nD × CI → ℕ) (c : Dev nD) (b : Fin 4) (h : Fin 3) :
    records m ρ K ⊢ reached ER (outCell c b h) 0 := by rw [← kcell_out]; exact reached_at m ρ K _
theorem reached_in (K : Dev nD × CI → ℕ) (c : Dev nD) (b : Fin 4) (h : Fin 3) :
    records m ρ K ⊢ reached ER (inCell c b h) 0 := by rw [← kcell_in]; exact reached_at m ρ K _

/-! ## One transfer -/

/-- What `c` holds of a transfer before it meets its neighbours: its positions, the tokens it pays with, the arrival's credit. -/
def idleX (c : Dev nD) (b : Fin 4) (h : Fin 3) : sProp 𝕄 :=
  iprop(atPos ER (outCell c b h) 0 ∅ 0 ∗ atPos ER (inCell c b h) 0 ∅ 0 ∗ dutyTok ER (outCell c b h) 0 false
    ∗ dutyTok ER (inCell (fw b c) b h) 0 false ∗ cred (tallyAt (inCell c b h) () N))
/-- The same with the slot the transfer will fill. -/
def readyX (c : Dev nD) (b : Fin 4) (h : Fin 3) : sProp 𝕄 := iprop(idleX c b h ∗ any (fw b c) b h)
/-- While it is under way. -/
def flyX (c : Dev nD) (b : Fin 4) (h : Fin 3) : sProp 𝕄 :=
  iprop(atPos ER (outCell c b h) 0 ∅ 0 ∗ atPos ER (inCell c b h) 0 ∅ 0 ∗ cred (tallyAt (outCell c b h) () N) ∗ cred (tallyAt (inCell c b h) () N))
/-- When it is over: both counters at zero. -/
def zeroX (c : Dev nD) (b : Fin 4) (h : Fin 3) : sProp 𝕄 := iprop(semVal (outCell c b h) 0 ∗ semVal (inCell c b h) 0)

/-- `c` owes the transfers of `l`. -/
def owesX (c : Dev nD) (l : List (Fin 4 × Fin 3)) : sProp 𝕄 := iprop(∃ W, owes (c : Thread nD τ) (OW c l) W)

abbrev 𝒱₀ : Variants := Variants.none

/-- The weakest precondition of a program on `c`. -/
abbrev wpc (c : Dev nD) (p : P F) (Q : PUnit → sProp 𝕄) : sProp 𝕄 := wp frame (wpE (defs₀ (F := F)) 𝒱₀ (c : Thread nD τ) none) Set.univ p Q

/-- What arrives is what left: the receiver's payload from the sender's source. -/
theorem arrives (c : Dev nD) (b : Fin 4) (h : Fin 3) (fd : Buf (Elt F) ((dstM b h).view.loc (fw b c : Thread nD τ)))
    (fs : (srcM b h).view.ty.Contents (Elt F)) (hf : (srcM b h).view.read (Elt F) fs = chunk m ρ (org b h.val c) b) :
    ((dstM b h).view.loc (fw b c : Thread nD τ) ↦[(dstM b h).view.set]{fullShare} (dstM b h).view.write (Elt F) fd ((srcM b h).view.read (Elt F) fs) Finset.univ : sProp 𝕄)
      ⊢ inPay m ρ (fw b c) b h := by
  unfold inPay owns
  iintro H
  iexists _
  isplitr
  · ipureintro
    rw [show org b (h.val + 1) (fw b c) = org b h.val c from congrArg (org b h.val) (bk_fw b c), ← hf]
    exact View.read_write_univ fd _
  · iexact H

/-- A transfer starts: the half share of the source leaves with it, and the debt shrinks by its credit. -/
theorem sendX_spec (K : Dev nD × CI → ℕ) (c : Dev nD) (b : Fin 4) (h : Fin 3) (d : Dev nD) (hd : d = fw b c) (l : List (Fin 4 × Fin 3))
    (κ : P F) (Q : PUnit → sProp 𝕄) :
    iprop(records m ρ K ∗ readyX c b h ∗ outPay m ρ c b h ∗ owesX c ((b, h) :: l))
      ⊢ iprop(((flyX c b h ∗ owesX c l) -∗ wpc c κ Q) -∗ wpc c (sendX b h d κ) Q) := by
  subst hd
  unfold readyX idleX flyX owesX any outPay owns sendX start
  iintro ⟨#HR, ⟨⟨Hao, Hai, Hto, Hti, Hci⟩, ⟨%fd, Hd⟩⟩, ⟨%fs, %hf, Hs⟩, ⟨%W, HO⟩⟩ Hk
  iapply (Rounds.wp_send_pointsTo 𝒱₀ ER (plan m ρ) (c : Thread nD τ) none (κ₁ := K (c, co b h)) (κ₂ := K (fw b c, ci b h))
    (r₁ := 0) (r₂ := 0) (d₁ := false) (d₂ := false) (fd := fd)
    (by rw [duties_out]; exact Finset.mem_singleton_self _) (by rw [duties_in]; exact Finset.mem_singleton_self _)
    () () N (show (dstM b h).view.amount (.dma (sR b h)) = N from credit_dst b h) (amount_out m ρ c b h false) (amount_in m ρ (fw b c) b h false) (OW c l) rfl (W := W)
    (by rw [payload_out]; unfold outPay owns; iintro H; iexists fs; isplitr; · (ipureintro; exact hf)
        iexact H)
    (by rw [payload_in]; exact arrives m ρ c b h fd fs hf)) $$ [Hs Hd HO Hto Hti]
  · isplitr; · iapply (inv_out m ρ K c b h); iexact HR
    isplitr; · iapply (inv_in m ρ K (fw b c) b h); iexact HR
    isplitl [Hs]; · iexact Hs
    isplitl [Hd]; · iexact Hd
    isplitl [HO]; · iexact HO
    isplitl [Hto]; · iexact Hto
    isplitr; · iapply (reached_out m ρ K c b h); iexact HR
    isplitl [Hti]; · iexact Hti
    iapply (reached_in m ρ K (fw b c) b h); iexact HR
  iintro ⟨Hco, HO⟩
  iapply Hk
  isplitr [HO]
  · isplitl [Hao]; · iexact Hao
    isplitl [Hai]; · iexact Hai
    isplitl [Hco] <;> iassumption
  · iexists W; iexact HO

/-- A transfer ends: the source's half share comes back, the arrival's slot comes with the half operand in it. -/
theorem waitX_spec (K : Dev nD × CI → ℕ) (c : Dev nD) (b : Fin 4) (h : Fin 3) (l : List (Fin 4 × Fin 3)) (hl : ∀ t ∈ l, h.val < t.2.val)
    (κ : P F) (Q : PUnit → sProp 𝕄) :
    iprop(records m ρ K ∗ levAts L lv ∗ flyX c b h ∗ owesX c l)
      ⊢ iprop(((zeroX c b h ∗ outPay m ρ c b h ∗ inPay m ρ c b h ∗ owesX c l) -∗ wpc c κ Q) -∗ wpc c (waitX b h κ) Q) := by
  unfold flyX owesX zeroX waitX waits
  iintro ⟨#HR, #Hlev, ⟨Hao, Hai, Hco, Hci⟩, ⟨%W, HO⟩⟩ Hk
  iapply (Rounds.wp_wait_rest_token 𝒱₀ ER (plan m ρ) (c : Thread nD τ) none (κ := K (c, co b h))
      (wpE_waitDma2_eq 𝒱₀ (c : Thread nD τ) none Set.univ) (Set.mem_univ _) () (O := OW c l) (W := W) (R := 0) (m := 0) (T := ∅)
      (by rw [Nat.zero_add, expect_out, credit_src])) $$ [Hco HO Hao]
  · isplitr; · iapply (inv_out m ρ K c b h); iexact HR
    isplitl [Hco]; · rw [credit_src]; iexact Hco
    isplitl [HO]; · iexact HO
    isplitr
    · iapply (mayWait_low c (.dma (sS b h)) l (fun t ht => by rw [role_out]; have := hl t ht; show 0 < _; omega)); iexact Hlev
    iexact Hao
  iintro ⟨HO, Hao, -, Hp⟩
  ihave Ho := (Entails.of_eq (rest_out m ρ c b h)) $$ Hp
  iapply (Rounds.wp_wait_rest_token 𝒱₀ ER (plan m ρ) (c : Thread nD τ) none (κ := K (c, ci b h))
      (wpE_waitDma2_eq 𝒱₀ (c : Thread nD τ) none Set.univ) (Set.mem_univ _) () (O := OW c l) (R := 0) (m := 0) (T := ∅)
      (by rw [Nat.zero_add, expect_in, credit_dst])) $$ [Hci HO Hai]
  · isplitr; · iapply (inv_in m ρ K c b h); iexact HR
    isplitl [Hci]; · rw [credit_dst]; iexact Hci
    isplitl [HO]; · iexact HO
    isplitr
    · iapply (mayWait_low c (.dma (sR b h)) l (fun t ht => by rw [role_in]; have := hl t ht; show 2 + _ < _; omega)); iexact Hlev
    iexact Hai
  iintro ⟨HO, Hai, -, Hp⟩
  ihave Hi := (Entails.of_eq (rest_in m ρ c b h)) $$ Hp
  imod (Rounds.cell_close ER (plan m ρ) (Set.mem_univ (K (c, co b h))) (fun h => h) (R := 0 + 1) (duties_later m ρ (outCell c b h))) $$ [Hao] with Hzo
  · isplitr; · iapply (inv_out m ρ K c b h); iexact HR
    iexact Hao
  imod (Rounds.cell_close ER (plan m ρ) (Set.mem_univ (K (c, ci b h))) (fun h => h) (R := 0 + 1) (duties_later m ρ (inCell c b h))) $$ [Hai] with Hzi
  · isplitr; · iapply (inv_in m ρ K c b h); iexact HR
    iexact Hai
  iapply Hk
  isplitl [Hzo Hzi]
  · isplitl [Hzo] <;> iassumption
  isplitl [Ho]; · iexact Ho
  isplitl [Hi]; · iexact Hi
  iexists _; iexact HO

/-- The two signals and the wait: the device gives each neighbour the slots that one writes, and gets those it writes. -/
theorem meet_spec (K : Dev nD × CI → ℕ) (c l r : Dev nD) (hl : l = prv c) (hr : r = nxt c) (κ : P F) (Q : PUnit → sProp 𝕄) (W : Waits sig Unit) :
    iprop(records m ρ K ∗ levAts L lv ∗ atPos ER (barCell c) 0 ∅ 0 ∗ cred (tallyAt (barCell c) () 2)
        ∗ dutyTok ER (barCell (prv c)) 0 false ∗ dutyTok ER (barCell (nxt c)) 0 true
        ∗ (give c 0 ∗ give c 1) ∗ (give c 2 ∗ give c 3) ∗ owes (c : Thread nD τ) (O₀ c) W)
      ⊢ iprop(((semVal (barCell c) 0 ∗ (give (nxt c) 0 ∗ give (nxt c) 1) ∗ (give (prv c) 2 ∗ give (prv c) 3) ∗ owesX c order) -∗ wpc c κ Q)
          -∗ wpc c (meet l r κ) Q) := by
  subst hl hr
  unfold meet owesX
  iintro ⟨#HR, #Hlev, Hat, Hc, HtP, HtN, Hg1, Hg2, HO⟩ Hk
  iapply (Rounds.wp_signal 𝒱₀ ER (plan m ρ) (c : Thread nD τ) none (dst := (prv c : Thread nD τ)) (κ := K (prv c, none))
      (d := false) (by rw [duties_bar]; exact Finset.mem_univ _) ((amount_bar m ρ (prv c) false).trans (by decide)) () (O₁ c) rfl)
    $$ [HO HtP Hg1]
  · isplitr; · iapply (inv_at m ρ K (prv c, none)); iexact HR
    isplitl [HO]; · iexact HO
    isplitl [HtP]; · iexact HtP
    isplitl [Hg1]
    · rw [payload_bar]; unfold barPay; rw [if_neg Bool.false_ne_true, nxt_prv]; iexact Hg1
    iapply (reached_at m ρ K (prv c, none)); iexact HR
  iintro HO
  unfold O₁
  iapply (Rounds.wp_signal 𝒱₀ ER (plan m ρ) (c : Thread nD τ) none (dst := (nxt c : Thread nD τ)) (κ := K (nxt c, none))
      (d := true) (by rw [duties_bar]; exact Finset.mem_univ _) ((amount_bar m ρ (nxt c) true).trans (by decide)) () (OW c order) rfl)
    $$ [HO HtN Hg2]
  · isplitr; · iapply (inv_at m ρ K (nxt c, none)); iexact HR
    isplitl [HO]; · iexact HO
    isplitl [HtN]; · iexact HtN
    isplitl [Hg2]
    · rw [payload_bar]; unfold barPay; rw [if_pos rfl, prv_nxt]; iexact Hg2
    iapply (reached_at m ρ K (nxt c, none)); iexact HR
  iintro HO
  iapply (Rounds.wp_wait_rest_token 𝒱₀ ER (plan m ρ) (c : Thread nD τ) none (κ := K (c, none))
      (wpE_semWait_eq 𝒱₀ (c : Thread nD τ) none Set.univ) (Set.mem_univ _) () (O := OW c order) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr
    · iapply (mayWait_low c (.reg barS) order (fun t _ => by rw [role_bar]; show 1 < _; omega)); iexact Hlev
    iexact Hat
  iintro ⟨HO, Hat, -, Hp⟩
  ihave Hg := (Entails.of_eq (rest_bar m ρ c)) $$ Hp
  icases Hg with ⟨Hg1, Hg2⟩
  imod (Rounds.cell_close ER (plan m ρ) (Set.mem_univ (K (c, none))) (fun h => h) (R := 0 + 1) (duties_later m ρ (barCell c))) $$ [Hat] with Hz
  · isplitr; · iapply (inv_at m ρ K (c, none)); iexact HR
    iexact Hat
  iapply Hk
  isplitl [Hz]; · iexact Hz
  isplitl [Hg1]; · iexact Hg1
  isplitl [Hg2]; · iexact Hg2
  iexists _; iexact HO

end Cert.KernelIdeal.Attn
-- ==== Proof.Loads.lean ====
module

public import proofs.«01_k».proof.Proof.Steps
public import Idealize.ShloMosaic.Lib.ValueLayout

/-! What the body reads: rows of an operand, rows of a slot, and the stacks of them; the splitting of an
operand into its two halves and of a buffer into its slots. -/

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

/-! ## Rows -/

/-- Rows `o` to `o + 63` of an operand's contents. -/
def rowsA (X : Vec F S1024x1024 .bf16) (o : ℕ) (h : InA o) : Vec F S64x1024 .bf16 :=
  fun j => X ((Rect.unit (s := S1024x1024) ![o, 0] S64x1024.size h).emb j)

/-- Rows `o` to `o + 63` of a half operand, with a leading unit axis. -/
def rowsB (Y : Vec F S512x1024 .bf16) (o : ℕ) (h : o ≤ 448) : Vec F S1x64x1024 .bf16 :=
  fun j => Y (ix2 (⟨o + (j 1).val, by have : (j 1).val < 64 := (j 1).2; omega⟩ : Fin 512) (⟨(j 2).val, (j 2).2⟩ : Fin 1024))

/-- Class `rr`'s rows of an operand. -/
def stkA (X : Vec F S1024x1024 .bf16) (rr : ℕ) (hr : rr ≤ 3) : FVec F S256x1024 .bf16 :=
  stackA (rowsA X (rr * 64) (inA _ (by omega))) (rowsA X (rr * 64 + 256) (inA _ (by omega)))
    (rowsA X (rr * 64 + 512) (inA _ (by omega))) (rowsA X (rr * 64 + 768) (inA _ (by omega)))

/-- Class `rr`'s rows of two half operands. -/
def stkB (Y Z : Vec F S512x1024 .bf16) (rr : ℕ) (hr : rr ≤ 3) : FVec F S256x1024 .bf16 :=
  stackB (rowsB Y (rr * 64) (by omega)) (rowsB Y (rr * 64 + 256) (by omega))
    (rowsB Z (rr * 64) (by omega)) (rowsB Z (rr * 64 + 256) (by omega))

/-! ## Loads -/

section Loads
variable (c : Dev nD)

/-- A load from an owned memref. -/
theorem load_owns (Q : PUnit → sProp 𝕄) {sh : Shape} {e : EltTy} (mm : Memref sig .tc .vmem sh e) (r : Rect sh) (hl : mm.view.LoadsAt r.toLoadRect)
    (q : PosShare TreeShare) (X : sh.Idx → Elt F e) (κ : (r.shape.Idx → Elt F e) → P F) :
    (owns (c : Thread nD τ) mm q X : sProp 𝕄)
      ⊢ iprop((owns (c : Thread nD τ) mm q X -∗ wpc c (κ fun j => X (r.emb j)) Q) -∗ wpc c (.op (.load mm r.toLoadRect hl) κ) Q) := by
  unfold owns
  iintro ⟨%f, %hf, H⟩ Hk
  iapply (wp_load 𝒱₀ (c : Thread nD τ) none Set.univ (m := mm) (mm.view.setOn_subset_set _)) $$ H
  iintro H
  subst hf
  iapply Hk
  iexists f
  isplitr; · ipureintro; rfl
  iexact H

theorem readA_spec (Q : PUnit → sProp 𝕄) (mm : MA) (o : ℕ) (h : InA o) (q : PosShare TreeShare) (X : Vec F S1024x1024 .bf16) (κ : Vec F S64x1024 .bf16 → P F) :
    (owns (c : Thread nD τ) mm q X : sProp 𝕄)
      ⊢ iprop((owns (c : Thread nD τ) mm q X -∗ wpc c (κ (rowsA X o h)) Q) -∗ wpc c (readA mm o h κ) Q) :=
  load_owns c Q mm (Rect.unit (s := S1024x1024) ![o, 0] S64x1024.size h) (View.loadsAt_vmem h_S64x1024) q X κ

theorem readW_spec (Q : PUnit → sProp 𝕄) {e : EltTy} (mm : Memref sig .tc .vmem S1024x1024 e) (q : PosShare TreeShare) (X : Vec F S1024x1024 e) (κ : Vec F S1024x1024 e → P F) :
    (owns (c : Thread nD τ) mm q X : sProp 𝕄)
      ⊢ iprop((owns (c : Thread nD τ) mm q X -∗ wpc c (κ X) Q) -∗ wpc c (readW mm κ) Q) := by
  have h : (fun j => X ((Rect.unit (s := S1024x1024) ![0, 0] S1024x1024.size inb_S1024x1024_S1024x1024_0_0).emb j)) = X := by
    funext j; congr 1; funext a; apply Fin.ext
    rw [Rect.emb_apply]
    fin_cases a
    · show 0 + 1 * _ = _; omega
    · show 0 + 1 * _ = _; omega
  have := load_owns c Q mm (Rect.unit (s := S1024x1024) ![0, 0] S1024x1024.size inb_S1024x1024_S1024x1024_0_0) (View.loadsAt_vmem h_S1024x1024) q X κ
  rw [h] at this
  exact this

theorem read4_spec (Q : PUnit → sProp 𝕄) (mm : MA) (o₁ o₂ o₃ o₄ : ℕ) (h₁ : InA o₁) (h₂ : InA o₂) (h₃ : InA o₃) (h₄ : InA o₄) (q : PosShare TreeShare) (X : Vec F S1024x1024 .bf16)
    (κ : FVec F S256x1024 .bf16 → P F) :
    (owns (c : Thread nD τ) mm q X : sProp 𝕄)
      ⊢ iprop((owns (c : Thread nD τ) mm q X -∗ wpc c (κ (stackA (rowsA X o₁ h₁) (rowsA X o₂ h₂) (rowsA X o₃ h₃) (rowsA X o₄ h₄))) Q)
          -∗ wpc c (read4 mm o₁ o₂ o₃ o₄ h₁ h₂ h₃ h₄ κ) Q) := by
  unfold read4
  iintro H Hk
  iapply (readA_spec c Q mm o₁ h₁ q X) $$ H; iintro H
  iapply (readA_spec c Q mm o₂ h₂ q X) $$ H; iintro H
  iapply (readA_spec c Q mm o₃ h₃ q X) $$ H; iintro H
  iapply (readA_spec c Q mm o₄ h₄ q X) $$ H; iintro H
  iapply Hk; iexact H

theorem ldA_spec (Q : PUnit → sProp 𝕄) (k v : MA) (rr : ℕ) (hr : rr ≤ 3) (q : PosShare TreeShare) (X Y : Vec F S1024x1024 .bf16)
    (κ : FVec F S256x1024 .bf16 → FVec F S256x1024 .bf16 → P F) :
    iprop(owns (c : Thread nD τ) k q X ∗ owns (c : Thread nD τ) v q Y)
      ⊢ iprop(((owns (c : Thread nD τ) k q X ∗ owns (c : Thread nD τ) v q Y) -∗ wpc c (κ (stkA X rr hr) (stkA Y rr hr)) Q)
          -∗ wpc c (ldA k v rr hr κ) Q) := by
  unfold ldA
  iintro ⟨H, H'⟩ Hk
  iapply (read4_spec c Q k _ _ _ _ _ _ _ _ q X) $$ H; iintro H
  iapply (read4_spec c Q v _ _ _ _ _ _ _ _ q Y) $$ H'; iintro H'
  iapply Hk
  isplitl [H]; · iexact H
  iexact H'

theorem allA_spec (Q : PUnit → sProp 𝕄) (q : PosShare TreeShare) (X Y : Vec F S1024x1024 .bf16)
    (κ : FVec F S256x1024 .bf16 → FVec F S256x1024 .bf16 → FVec F S256x1024 .bf16 → FVec F S256x1024 .bf16 →
      FVec F S256x1024 .bf16 → FVec F S256x1024 .bf16 → FVec F S256x1024 .bf16 → FVec F S256x1024 .bf16 → P F) :
    iprop(owns (c : Thread nD τ) (opM 0) q X ∗ owns (c : Thread nD τ) (opM 1) q Y)
      ⊢ iprop(((owns (c : Thread nD τ) (opM 0) q X ∗ owns (c : Thread nD τ) (opM 1) q Y)
            -∗ wpc c (κ (stkA X 0 (by omega)) (stkA Y 0 (by omega)) (stkA X 1 (by omega)) (stkA Y 1 (by omega))
              (stkA X 2 (by omega)) (stkA Y 2 (by omega)) (stkA X 3 (by omega)) (stkA Y 3 (by omega))) Q)
          -∗ wpc c (allA κ) Q) := by
  unfold allA
  iintro H Hk
  iapply (ldA_spec c Q (opM 0) (opM 1) 0 _ q X Y) $$ H; iintro H
  iapply (ldA_spec c Q (opM 0) (opM 1) 1 _ q X Y) $$ H; iintro H
  iapply (ldA_spec c Q (opM 0) (opM 1) 2 _ q X Y) $$ H; iintro H
  iapply (ldA_spec c Q (opM 0) (opM 1) 3 _ q X Y) $$ H; iintro H
  iapply Hk; iexact H

/-! ### Loads from a slot -/

/-- The rectangle of a slot, -/
abbrev slotR (s : ℕ) (hs : s ≤ 3) : Rect S4x512x1024 := Rect.unit (s := S4x512x1024) ![s, 0, 0] S1x512x1024.size (inS s hs)

/-- A row of a slot, as a place in the buffer. -/
theorem slot_place (s o : ℕ) (hs : s ≤ 3) (ho : o ≤ 448) (h : InB s o) (j : S1x64x1024.Idx) :
    (Rect.unit (s := S4x512x1024) ![s, o, 0] S1x64x1024.size h).emb j
      = (slotR s hs).emb (Shape.reshapeEquiv squeezes_S1x512x1024_S512x1024.numel_eq
          (ix2 (⟨o + (j 1).val, by have : (j 1).val < 64 := (j 1).2; omega⟩ : Fin 512) (⟨(j 2).val, (j 2).2⟩ : Fin 1024))) := by
  rw [reshapeEquiv_ix2_1ab]
  funext a; apply Fin.ext
  rw [Rect.emb_apply, Rect.emb_apply]
  fin_cases a
  · have : (j 0).val < 1 := (j 0).2
    show s + 1 * (j 0).val = s + 1 * 0; omega
  · show o + 1 * (j 1).val = 0 + 1 * (o + (j 1).val); omega
  · show 0 + 1 * (j 2).val = 0 + 1 * (j 2).val; omega

theorem dst_set (b : Fin 4) (h : Fin 3) : (dstM b h).view.set = ((bufM b).view.slice (slotR (h.val + 1) (by omega))).set := View.set_reshape _ _

theorem readB_spec (Q : PUnit → sProp 𝕄) (b : Fin 4) (h : Fin 3) (s o : ℕ) (hs : s = h.val + 1) (ho : o ≤ 448) (hin : InB s o) (q : PosShare TreeShare) (Y : Vec F S512x1024 .bf16)
    (κ : Vec F S1x64x1024 .bf16 → P F) :
    (owns (c : Thread nD τ) (dstM b h) q Y : sProp 𝕄)
      ⊢ iprop((owns (c : Thread nD τ) (dstM b h) q Y -∗ wpc c (κ (rowsB Y o ho)) Q) -∗ wpc c (readB (bufM b) s o hin κ) Q) := by
  subst hs
  unfold owns readB
  iintro ⟨%f, %hf, H⟩ Hk
  have hS : (bufM b).view.setOn (Rect.unit (s := S4x512x1024) ![h.val + 1, o, 0] S1x64x1024.size hin).toLoadRect.set ⊆ (dstM b h).view.set := by
    rw [dst_set, View.set_slice]
    refine Finset.map_subset_map.mpr fun i hi => ?_
    obtain ⟨j, rfl⟩ := (Rect.unit (s := S4x512x1024) ![h.val + 1, o, 0] S1x64x1024.size hin).exists_idx_of_mem hi
    show (Rect.unit (s := S4x512x1024) ![h.val + 1, o, 0] S1x64x1024.size hin).emb j ∈ _
    rw [slot_place (h.val + 1) o (by omega) ho hin j, ← Rect.map_emb_univ]
    exact Finset.mem_map_of_mem _ (Finset.mem_univ _)
  iapply (wp_load 𝒱₀ (c : Thread nD τ) none Set.univ (m := bufM b) (f := f) (q := q) hS) $$ [H]; · iexact H
  iintro H
  have hv : (bufM b).view.readAt (Elt F) (Rect.unit (s := S4x512x1024) ![h.val + 1, o, 0] S1x64x1024.size hin).toLoadRect f = rowsB Y o ho := by
    subst hf
    funext j
    show (bufM b).view.read (Elt F) f ((Rect.unit (s := S4x512x1024) ![h.val + 1, o, 0] S1x64x1024.size hin).emb j) = _
    rw [slot_place (h.val + 1) o (by omega) ho hin j]
    rfl
  rw [hv]
  iapply Hk
  iexists f
  isplitr; · ipureintro; exact hf
  iexact H

/-- Slot `h + 1` of all four buffers, at the four contents. -/
def slots (h : Fin 3) (q : PosShare TreeShare) (Y : Fin 4 → Vec F S512x1024 .bf16) : sProp 𝕄 :=
  iprop(owns (c : Thread nD τ) (dstM 0 h) q (Y 0) ∗ owns (c : Thread nD τ) (dstM 1 h) q (Y 1)
    ∗ owns (c : Thread nD τ) (dstM 2 h) q (Y 2) ∗ owns (c : Thread nD τ) (dstM 3 h) q (Y 3))

theorem ldB_spec (Q : PUnit → sProp 𝕄) (h : Fin 3) (s rr : ℕ) (hs : s = h.val + 1) (hs3 : s ≤ 3) (hr : rr ≤ 3) (q : PosShare TreeShare) (Y : Fin 4 → Vec F S512x1024 .bf16)
    (κ : FVec F S256x1024 .bf16 → FVec F S256x1024 .bf16 → P F) :
    slots c h q Y
      ⊢ iprop((slots c h q Y -∗ wpc c (κ (stkB (Y 0) (Y 2) rr hr) (stkB (Y 1) (Y 3) rr hr)) Q)
          -∗ wpc c (ldB (bufM 0) (bufM 1) (bufM 2) (bufM 3) s rr hs3 hr κ) Q) := by
  unfold ldB slots read22
  iintro ⟨H0, H1, H2, H3⟩ Hk
  iapply (readB_spec c Q 0 h s _ hs (by omega) _ q (Y 0)) $$ H0; iintro H0
  iapply (readB_spec c Q 0 h s _ hs (by omega) _ q (Y 0)) $$ H0; iintro H0
  iapply (readB_spec c Q 2 h s _ hs (by omega) _ q (Y 2)) $$ H2; iintro H2
  iapply (readB_spec c Q 2 h s _ hs (by omega) _ q (Y 2)) $$ H2; iintro H2
  iapply (readB_spec c Q 1 h s _ hs (by omega) _ q (Y 1)) $$ H1; iintro H1
  iapply (readB_spec c Q 1 h s _ hs (by omega) _ q (Y 1)) $$ H1; iintro H1
  iapply (readB_spec c Q 3 h s _ hs (by omega) _ q (Y 3)) $$ H3; iintro H3
  iapply (readB_spec c Q 3 h s _ hs (by omega) _ q (Y 3)) $$ H3; iintro H3
  iapply Hk
  isplitl [H0]; · iexact H0
  isplitl [H1]; · iexact H1
  isplitl [H2]; · iexact H2
  iexact H3

theorem allB_spec (Q : PUnit → sProp 𝕄) (h : Fin 3) (s : ℕ) (hs : s = h.val + 1) (hs3 : s ≤ 3) (q : PosShare TreeShare) (Y : Fin 4 → Vec F S512x1024 .bf16)
    (κ : FVec F S256x1024 .bf16 → FVec F S256x1024 .bf16 → FVec F S256x1024 .bf16 → FVec F S256x1024 .bf16 →
      FVec F S256x1024 .bf16 → FVec F S256x1024 .bf16 → FVec F S256x1024 .bf16 → FVec F S256x1024 .bf16 → P F) :
    slots c h q Y
      ⊢ iprop((slots c h q Y
            -∗ wpc c (κ (stkB (Y 0) (Y 2) 0 (by omega)) (stkB (Y 1) (Y 3) 0 (by omega)) (stkB (Y 0) (Y 2) 1 (by omega)) (stkB (Y 1) (Y 3) 1 (by omega))
              (stkB (Y 0) (Y 2) 2 (by omega)) (stkB (Y 1) (Y 3) 2 (by omega)) (stkB (Y 0) (Y 2) 3 (by omega)) (stkB (Y 1) (Y 3) 3 (by omega))) Q)
          -∗ wpc c (allB s hs3 κ) Q) := by
  unfold allB
  iintro H Hk
  iapply (ldB_spec c Q h s 0 hs hs3 _ q Y) $$ H; iintro H
  iapply (ldB_spec c Q h s 1 hs hs3 _ q Y) $$ H; iintro H
  iapply (ldB_spec c Q h s 2 hs hs3 _ q Y) $$ H; iintro H
  iapply (ldB_spec c Q h s 3 hs hs3 _ q Y) $$ H; iintro H
  iapply Hk; iexact H

end Loads

/-! ## Halves and slots -/

/-- The two halves of an operand. -/
def hlf (t : Bool) : Rect S1024x1024 := if t then halfR 512 (by omega) else halfR 0 (by omega)

theorem hlf_stride (t : Bool) (a) : (hlf t).stride a = 1 := by cases t <;> rfl

theorem hlf_disjoint (t t' : Bool) (h : t ≠ t') : Disjoint (hlf t).set (hlf t').set := by
  have e : Disjoint (hlf false).set (hlf true).set :=
    Rect.disjoint_of_separated _ _ (0 : Fin 2) (.inl (.inr (by show 0 + 1 * (512 - 1) < 512; decide)))
  cases t <;> cases t'
  · exact absurd rfl h
  · exact e
  · exact e.symm
  · exact absurd rfl h

theorem hlf_cover : (Finset.univ : Finset Bool).biUnion (fun t => (hlf t).set) = Finset.univ := by
  refine Finset.eq_univ_iff_forall.mpr fun i => Finset.mem_biUnion.mpr ?_
  have h0 : (i 0).val < 1024 := (i 0).2
  have h1 : (i 1).val < 1024 := (i 1).2
  by_cases h : (i 0).val < 512
  · refine ⟨false, Finset.mem_univ _, ?_⟩
    show i ∈ (halfR 0 (by omega)).set
    rw [Rect.mem_set_unit]; intro a
    fin_cases a
    · exact ⟨Nat.zero_le _, by show (i 0).val < 0 + 512; omega⟩
    · exact ⟨Nat.zero_le _, by show (i 1).val < 0 + 1024; omega⟩
  · refine ⟨true, Finset.mem_univ _, ?_⟩
    show i ∈ (halfR 512 (by omega)).set
    rw [Rect.mem_set_unit]; intro a
    fin_cases a
    · exact ⟨by show 512 ≤ (i 0).val; omega, by show (i 0).val < 512 + 512; omega⟩
    · exact ⟨Nat.zero_le _, by show (i 1).val < 0 + 1024; omega⟩

/-- An operand is its two halves. -/
theorem split_op (c : Dev nD) (mm : MA) (q : PosShare TreeShare) (X : Vec F S1024x1024 .bf16) :
    (owns (c : Thread nD τ) mm q X : sProp 𝕄)
      ⊢ iprop(owns (c : Thread nD τ) (half mm 0 (inH 0 (by omega))) q (fun i => X ((halfR 0 (by omega)).emb i))
          ∗ owns (c : Thread nD τ) (half mm 512 (inH 512 (by omega))) q (fun i => X ((halfR 512 (by omega)).emb i))) := by
  refine (owns_rects (c : Thread nD τ) mm q hlf hlf_stride hlf_disjoint hlf_cover X).trans (Entails.of_eq ?_)
  rw [bigSep_univ_eq_bigSepL [false, true] (by decide) (by decide), bigSepL_cons_cons, bigSepL_singleton]
  rfl

theorem join_op (c : Dev nD) (mm : MA) (q : PosShare TreeShare) (X : Vec F S1024x1024 .bf16) :
    iprop(owns (c : Thread nD τ) (half mm 0 (inH 0 (by omega))) q (fun i => X ((halfR 0 (by omega)).emb i))
          ∗ owns (c : Thread nD τ) (half mm 512 (inH 512 (by omega))) q (fun i => X ((halfR 512 (by omega)).emb i)))
      ⊢ (owns (c : Thread nD τ) mm q X : sProp 𝕄) := by
  refine (Entails.of_eq ?_).trans (owns_of_rects (c : Thread nD τ) mm q hlf hlf_stride hlf_disjoint hlf_cover X)
  rw [bigSep_univ_eq_bigSepL [false, true] (by decide) (by decide), bigSepL_cons_cons, bigSepL_singleton]
  rfl

end Cert.KernelIdeal.Attn
-- ==== Proof.Run.lean ====
module

public import proofs.«01_k».proof.Proof.Loads

/-! The body, run once at any device: from the staged operands, the travelling buffers and the protocol's
state to the result. -/

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## A buffer and its slots -/

theorem le3 (s : Fin 4) : s.val ≤ 3 := by omega

/-- The places of slot `s` of buffer `b`. -/
abbrev slotSet (b : Fin 4) (s : Fin 4) : Finset (bufM b).view.ty.Idx :=
  ((bufM b).view.slice (slotR s.val (le3 s))).set

theorem slot_disjoint (b : Fin 4) (s s' : Fin 4) (h : s ≠ s') : Disjoint (slotSet b s) (slotSet b s') := by
  unfold slotSet
  rw [View.set_slice, View.set_slice]
  refine (Finset.disjoint_map _).mpr (Rect.disjoint_of_axis _ _ (0 : Fin 3) fun j₁ h₁ j₂ h₂ => ?_)
  have h₁ : j₁ < 1 := h₁
  have h₂ : j₂ < 1 := h₂
  have : s.val ≠ s'.val := fun e => h (Fin.ext e)
  show s.val + 1 * j₁ ≠ s'.val + 1 * j₂
  omega

theorem slot_cover (b : Fin 4) : (bufM b).view.set = slotSet b 0 ∪ (slotSet b 1 ∪ (slotSet b 2 ∪ slotSet b 3)) := by
  have key : (Finset.univ : Finset S4x512x1024.Idx)
      = (slotR 0 (by omega)).set ∪ ((slotR 1 (by omega)).set ∪ ((slotR 2 (by omega)).set ∪ (slotR 3 (by omega)).set)) := by
    refine (Finset.eq_univ_iff_forall.mpr fun i => ?_).symm
    have h0 : (i 0).val < 4 := (i 0).2
    have h1 : (i 1).val < 512 := (i 1).2
    have h2 : (i 2).val < 1024 := (i 2).2
    have hi (s : ℕ) (hs : s ≤ 3) (e : (i 0).val = s) : i ∈ (slotR s hs).set := by
      rw [Rect.mem_set_unit]; intro a
      fin_cases a
      · exact ⟨by show s ≤ (i 0).val; omega, by show (i 0).val < s + 1; omega⟩
      · exact ⟨Nat.zero_le _, by show (i 1).val < 0 + 512; omega⟩
      · exact ⟨Nat.zero_le _, by show (i 2).val < 0 + 1024; omega⟩
    simp only [Finset.mem_union]
    have : (i 0).val = 0 ∨ (i 0).val = 1 ∨ (i 0).val = 2 ∨ (i 0).val = 3 := by omega
    rcases this with e | e | e | e
    · exact .inl (hi 0 (by omega) e)
    · exact .inr (.inl (hi 1 (by omega) e))
    · exact .inr (.inr (.inl (hi 2 (by omega) e)))
    · exact .inr (.inr (.inr (hi 3 (by omega) e)))
  unfold slotSet
  rw [View.set_slice, View.set_slice, View.set_slice, View.set_slice, ← Finset.map_union, ← Finset.map_union, ← Finset.map_union]
  exact congrArg (Finset.map (bufM b).view.emb) key

/-- Buffer `b`'s places `S` on device `c`, at any contents. -/
def someIn (c : Dev nD) (b : Fin 4) (S : Finset (bufM b).view.ty.Idx) : sProp 𝕄 :=
  iprop(∃ f, (bufM b).view.loc (c : Thread nD τ) ↦[S]{fullShare} f)

theorem someIn_union (c : Dev nD) (b : Fin 4) (S T : Finset (bufM b).view.ty.Idx) (h : Disjoint S T) :
    (someIn c b (S ∪ T) : sProp 𝕄) ⊣⊢ iprop(someIn c b S ∗ someIn c b T) := by
  unfold someIn
  constructor
  · iintro ⟨%f, H⟩
    ihave H := (pointsTo_union h).1 $$ H
    icases H with ⟨H1, H2⟩
    isplitl [H1]
    · iexists f; iexact H1
    · iexists f; iexact H2
  · iintro ⟨⟨%f, H1⟩, ⟨%g, H2⟩⟩
    iexists _
    iapply (pointsTo_join h)
    isplitl [H1]; · iexact H1
    iexact H2

theorem any_eq (c : Dev nD) (b : Fin 4) (h : Fin 3) : (any c b h : sProp 𝕄) = someIn c b (slotSet b h.succ) := by
  unfold any someIn; rw [dst_set]; rfl

/-- Buffer `b` on device `c`, at any contents, is its first slot and the three others. -/
theorem buf_split (c : Dev nD) (b : Fin 4) : (someIn c b (bufM b).view.set : sProp 𝕄) ⊣⊢ iprop(someIn c b (slotSet b 0) ∗ give c b) := by
  have d0 : Disjoint (slotSet b 0) (slotSet b 1 ∪ (slotSet b 2 ∪ slotSet b 3)) :=
    Finset.disjoint_union_right.mpr ⟨slot_disjoint b 0 1 (by decide), Finset.disjoint_union_right.mpr ⟨slot_disjoint b 0 2 (by decide), slot_disjoint b 0 3 (by decide)⟩⟩
  have d1 : Disjoint (slotSet b 1) (slotSet b 2 ∪ slotSet b 3) :=
    Finset.disjoint_union_right.mpr ⟨slot_disjoint b 1 2 (by decide), slot_disjoint b 1 3 (by decide)⟩
  rw [slot_cover]
  unfold give
  rw [any_eq, any_eq, any_eq]
  constructor
  · iintro H
    ihave H := (someIn_union (F := F) c b _ _ d0).1 $$ H
    icases H with ⟨H0, H⟩
    ihave H := (someIn_union (F := F) c b _ _ d1).1 $$ H
    icases H with ⟨H1, H⟩
    ihave H := (someIn_union (F := F) c b _ _ (slot_disjoint b 2 3 (by decide))).1 $$ H
    icases H with ⟨H2, H3⟩
    isplitl [H0]; · iexact H0
    isplitl [H1]; · iexact H1
    isplitl [H2]; · iexact H2
    iexact H3
  · iintro ⟨H0, H1, H2, H3⟩
    iapply (someIn_union (F := F) c b _ _ d0).2
    isplitl [H0]; · iexact H0
    iapply (someIn_union (F := F) c b _ _ d1).2
    isplitl [H1]; · iexact H1
    iapply (someIn_union (F := F) c b _ _ (slot_disjoint b 2 3 (by decide))).2
    isplitl [H2]; · iexact H2
    iexact H3

/-- An owned slot is the slot at some contents. -/
theorem any_of_owns (c : Dev nD) (b : Fin 4) (h : Fin 3) (Y : Vec F S512x1024 .bf16) : (owns (c : Thread nD τ) (dstM b h) fullShare Y : sProp 𝕄) ⊢ any c b h := by
  unfold owns any
  iintro ⟨%f, -, H⟩
  iexists f; iexact H

/-- A slot's two half shares are the slot. -/
theorem slot_back (c : Dev nD) (b : Fin 4) (h : Fin 3) (Y : Vec F S512x1024 .bf16) :
    iprop(owns (c : Thread nD τ) (dstM b h) fullShare.left Y ∗ owns (c : Thread nD τ) (dstM b h) fullShare.right Y) ⊢ (any c b h : sProp 𝕄) :=
  (owns_halves (c : Thread nD τ) (dstM b h) fullShare Y).2.trans (any_of_owns c b h Y)

/-! ## The transfers in groups -/

/-- A thing for each of the four buffers. -/
def four (Φ : Fin 4 → sProp 𝕄) : sProp 𝕄 := iprop(Φ 0 ∗ Φ 1 ∗ Φ 2 ∗ Φ 3)

/-- What transfer `h` brought `c`, of each buffer. -/
abbrev got (c : Dev nD) (h : Fin 3) : Fin 4 → Vec F S512x1024 .bf16 := fun b => chunk m ρ (org b (h.val + 1) c) b

theorem sends0_spec (K : Dev nD × CI → ℕ) (c : Dev nD) (r1 r2 l1 l2 : Dev nD) (h1 : r1 = nxt c) (h2 : r2 = nxt c) (h3 : l1 = prv c) (h4 : l2 = prv c)
    (l : List (Fin 4 × Fin 3)) (κ : P F) (Q : PUnit → sProp 𝕄) :
    iprop(records m ρ K ∗ four (fun b => readyX c b 0) ∗ four (fun b => outPay m ρ c b 0) ∗ owesX c ((0, 0) :: (1, 0) :: (2, 0) :: (3, 0) :: l))
      ⊢ iprop(((four (fun b => flyX c b 0) ∗ owesX c l) -∗ wpc c κ Q) -∗ wpc c (sends0 r1 r2 l1 l2 κ) Q) := by
  unfold sends0 four
  iintro ⟨#HR, ⟨R0, R1, R2, R3⟩, ⟨O0, O1, O2, O3⟩, HO⟩ Hk
  iapply (sendX_spec m ρ K c 0 0 r1 h1 _ _ Q) $$ [R0 O0 HO]
  · isplitr; · iexact HR
    isplitl [R0]; · iexact R0
    isplitl [O0] <;> iassumption
  iintro ⟨F0, HO⟩
  iapply (sendX_spec m ρ K c 1 0 r2 h2 _ _ Q) $$ [R1 O1 HO]
  · isplitr; · iexact HR
    isplitl [R1]; · iexact R1
    isplitl [O1] <;> iassumption
  iintro ⟨F1, HO⟩
  iapply (sendX_spec m ρ K c 2 0 l1 h3 _ _ Q) $$ [R2 O2 HO]
  · isplitr; · iexact HR
    isplitl [R2]; · iexact R2
    isplitl [O2] <;> iassumption
  iintro ⟨F2, HO⟩
  iapply (sendX_spec m ρ K c 3 0 l2 h4 _ _ Q) $$ [R3 O3 HO]
  · isplitr; · iexact HR
    isplitl [R3]; · iexact R3
    isplitl [O3] <;> iassumption
  iintro ⟨F3, HO⟩
  iapply Hk
  isplitr [HO]
  · isplitl [F0]; · iexact F0
    isplitl [F1]; · iexact F1
    isplitl [F2] <;> iassumption
  · iexact HO

/-- One transfer's end and its passing on: the left half share of the slot stays with `c`. -/
theorem pass_spec (K : Dev nD × CI → ℕ) (c : Dev nD) (b : Fin 4) (h h' : Fin 3) (hh : (h = 0 ∧ h' = 1) ∨ (h = 1 ∧ h' = 2)) (d : Dev nD) (hd : d = fw b c)
    (l : List (Fin 4 × Fin 3)) (hl : ∀ t ∈ l, h.val < t.2.val) (κ : P F) (Q : PUnit → sProp 𝕄) :
    iprop(records m ρ K ∗ levAts L lv ∗ flyX c b h ∗ readyX c b h' ∗ owesX c ((b, h') :: l))
      ⊢ iprop(((zeroX c b h ∗ outPay m ρ c b h ∗ owns (c : Thread nD τ) (dstM b h) fullShare.left (got m ρ c h b) ∗ flyX c b h' ∗ owesX c l) -∗ wpc c κ Q)
          -∗ wpc c (waitX b h (sendX b h' d κ)) Q) := by
  have hlt : h.val < h'.val := by rcases hh with ⟨rfl, rfl⟩ | ⟨rfl, rfl⟩ <;> decide
  have hsrc : (owns (c : Thread nD τ) (dstM b h) fullShare.right (got m ρ c h b) : sProp 𝕄) ⊢ outPay m ρ c b h' := by
    rcases hh with ⟨rfl, rfl⟩ | ⟨rfl, rfl⟩ <;> exact Entails.of_eq rfl
  iintro ⟨#HR, #Hlev, Hf, Hr, HO⟩ Hk
  iapply (waitX_spec m ρ K c b h ((b, h') :: l) (List.forall_mem_cons.mpr ⟨hlt, hl⟩) _ Q) $$ [Hf HO]
  · isplitr; · iexact HR
    isplitr; · iexact Hlev
    isplitl [Hf] <;> iassumption
  iintro ⟨Hz, Ho, Hi, HO⟩
  unfold inPay
  ihave H2 := (owns_halves (c : Thread nD τ) (dstM b h) fullShare (chunk m ρ (org b (h.val + 1) c) b)).1 $$ Hi
  icases H2 with ⟨Hleft, Hright⟩
  iapply (sendX_spec m ρ K c b h' d hd l κ Q) $$ [Hr Hright HO]
  · isplitr; · iexact HR
    isplitl [Hr]; · iexact Hr
    isplitl [Hright]; · iapply hsrc; iexact Hright
    iexact HO
  iintro ⟨Hf, HO⟩
  iapply Hk
  isplitl [Hz]; · iexact Hz
  isplitl [Ho]; · iexact Ho
  isplitl [Hleft]; · iexact Hleft
  isplitl [Hf] <;> iassumption

theorem turn_spec (K : Dev nD × CI → ℕ) (c : Dev nD) (h h' : Fin 3) (hh : (h = 0 ∧ h' = 1) ∨ (h = 1 ∧ h' = 2)) (r1 l1 r2 l2 : Dev nD)
    (h1 : r1 = nxt c) (h2 : l1 = prv c) (h3 : r2 = nxt c) (h4 : l2 = prv c)
    (l : List (Fin 4 × Fin 3)) (hl : ∀ t ∈ l, h.val < t.2.val) (κ : P F) (Q : PUnit → sProp 𝕄) :
    iprop(records m ρ K ∗ levAts L lv ∗ four (fun b => flyX c b h) ∗ four (fun b => readyX c b h')
        ∗ owesX c ((0, h') :: (2, h') :: (1, h') :: (3, h') :: l))
      ⊢ iprop(((four (fun b => zeroX c b h) ∗ four (fun b => outPay m ρ c b h) ∗ slots c h fullShare.left (got m ρ c h) ∗ four (fun b => flyX c b h') ∗ owesX c l) -∗ wpc c κ Q)
          -∗ wpc c (turn h h' r1 l1 r2 l2 κ) Q) := by
  have hlt : h.val < h'.val := by rcases hh with ⟨rfl, rfl⟩ | ⟨rfl, rfl⟩ <;> decide
  have a1 : ∀ t ∈ (3, h') :: l, h.val < t.2.val := List.forall_mem_cons.mpr ⟨hlt, hl⟩
  have a2 : ∀ t ∈ (1, h') :: (3, h') :: l, h.val < t.2.val := List.forall_mem_cons.mpr ⟨hlt, a1⟩
  have a3 : ∀ t ∈ (2, h') :: (1, h') :: (3, h') :: l, h.val < t.2.val := List.forall_mem_cons.mpr ⟨hlt, a2⟩
  unfold turn four slots
  iintro ⟨#HR, #Hlev, ⟨F0, F1, F2, F3⟩, ⟨R0, R1, R2, R3⟩, HO⟩ Hk
  iapply (pass_spec m ρ K c 0 h h' hh r1 h1 _ a3 _ Q) $$ [F0 R0 HO]
  · isplitr; · iexact HR
    isplitr; · iexact Hlev
    isplitl [F0]; · iexact F0
    isplitl [R0] <;> iassumption
  iintro ⟨Z0, O0, S0, F0, HO⟩
  iapply (pass_spec m ρ K c 2 h h' hh l1 h2 _ a2 _ Q) $$ [F2 R2 HO]
  · isplitr; · iexact HR
    isplitr; · iexact Hlev
    isplitl [F2]; · iexact F2
    isplitl [R2] <;> iassumption
  iintro ⟨Z2, O2, S2, F2, HO⟩
  iapply (pass_spec m ρ K c 1 h h' hh r2 h3 _ a1 _ Q) $$ [F1 R1 HO]
  · isplitr; · iexact HR
    isplitr; · iexact Hlev
    isplitl [F1]; · iexact F1
    isplitl [R1] <;> iassumption
  iintro ⟨Z1, O1, S1, F1, HO⟩
  iapply (pass_spec m ρ K c 3 h h' hh l2 h4 _ hl _ Q) $$ [F3 R3 HO]
  · isplitr; · iexact HR
    isplitr; · iexact Hlev
    isplitl [F3]; · iexact F3
    isplitl [R3] <;> iassumption
  iintro ⟨Z3, O3, S3, F3, HO⟩
  iapply Hk
  isplitl [Z0 Z1 Z2 Z3]
  · isplitl [Z0]; · iexact Z0
    isplitl [Z1]; · iexact Z1
    isplitl [Z2] <;> iassumption
  isplitl [O0 O1 O2 O3]
  · isplitl [O0]; · iexact O0
    isplitl [O1]; · iexact O1
    isplitl [O2] <;> iassumption
  isplitl [S0 S1 S2 S3]
  · isplitl [S0]; · iexact S0
    isplitl [S1]; · iexact S1
    isplitl [S2] <;> iassumption
  isplitr [HO]
  · isplitl [F0]; · iexact F0
    isplitl [F1]; · iexact F1
    isplitl [F2] <;> iassumption
  iexact HO

theorem lastTurn_spec (K : Dev nD × CI → ℕ) (c : Dev nD) (κ : P F) (Q : PUnit → sProp 𝕄) :
    iprop(records m ρ K ∗ levAts L lv ∗ four (fun b => flyX c b 2) ∗ owesX c [])
      ⊢ iprop(((four (fun b => zeroX c b 2) ∗ four (fun b => outPay m ρ c b 2) ∗ slots c 2 fullShare (got m ρ c 2) ∗ owesX c []) -∗ wpc c κ Q)
          -∗ wpc c (lastTurn κ) Q) := by
  have none : ∀ t ∈ ([] : List (Fin 4 × Fin 3)), (2 : Fin 3).val < t.2.val := fun t ht => absurd ht List.not_mem_nil
  unfold lastTurn four slots
  iintro ⟨#HR, #Hlev, ⟨F0, F1, F2, F3⟩, HO⟩ Hk
  iapply (waitX_spec m ρ K c 0 2 [] none _ Q) $$ [F0 HO]
  · isplitr; · iexact HR
    isplitr; · iexact Hlev
    isplitl [F0] <;> iassumption
  iintro ⟨Z0, O0, S0, HO⟩
  iapply (waitX_spec m ρ K c 2 2 [] none _ Q) $$ [F2 HO]
  · isplitr; · iexact HR
    isplitr; · iexact Hlev
    isplitl [F2] <;> iassumption
  iintro ⟨Z2, O2, S2, HO⟩
  iapply (waitX_spec m ρ K c 1 2 [] none _ Q) $$ [F1 HO]
  · isplitr; · iexact HR
    isplitr; · iexact Hlev
    isplitl [F1] <;> iassumption
  iintro ⟨Z1, O1, S1, HO⟩
  iapply (waitX_spec m ρ K c 3 2 [] none _ Q) $$ [F3 HO]
  · isplitr; · iexact HR
    isplitr; · iexact Hlev
    isplitl [F3] <;> iassumption
  iintro ⟨Z3, O3, S3, HO⟩
  iapply Hk
  isplitl [Z0 Z1 Z2 Z3]
  · isplitl [Z0]; · iexact Z0
    isplitl [Z1]; · iexact Z1
    isplitl [Z2] <;> iassumption
  isplitl [O0 O1 O2 O3]
  · isplitl [O0]; · iexact O0
    isplitl [O1]; · iexact O1
    isplitl [O2] <;> iassumption
  isplitr [HO]
  · unfold inPay
    isplitl [S0]; · iexact S0
    isplitl [S1]; · iexact S1
    isplitl [S2] <;> iassumption
  iexact HO

/-! ## The whole body -/

/-- Device `c`'s other operands as staged. -/
def xst (c : Dev nD) : Vec F S1024x1024 .bf16 := (win0_0.blk (0 : Fin 1)).view.read (Elt F) ((s₀ m ρ).mem ((c : Thread nD τ).loc main_arg0))
def wqst (c : Dev nD) : Vec F S1024x1024 .bf16 := (win0_1.blk (0 : Fin 1)).view.read (Elt F) ((s₀ m ρ).mem ((c : Thread nD τ).loc main_arg1))
def wost (c : Dev nD) : Vec F S1024x1024 .bf16 := (win0_4.blk (0 : Fin 1)).view.read (Elt F) ((s₀ m ρ).mem ((c : Thread nD τ).loc main_arg4))

/-- The heads of class `rr` on device `c`, whose queries are `q`. -/
def headsAt (c : Dev nD) (q : FVec F S256x1024 .bf16) (rr : ℕ) (hr : rr ≤ 3) :=
  heads q (stkA (opV m ρ c 0) rr hr) (stkA (opV m ρ c 1) rr hr)
    (stkB (got m ρ c 0 0) (got m ρ c 0 2) rr hr) (stkB (got m ρ c 0 1) (got m ρ c 0 3) rr hr)
    (stkB (got m ρ c 1 0) (got m ρ c 1 2) rr hr) (stkB (got m ρ c 1 1) (got m ρ c 1 3) rr hr)
    (stkB (got m ρ c 2 0) (got m ρ c 2 2) rr hr) (stkB (got m ρ c 2 1) (got m ρ c 2 3) rr hr)

/-- Device `c`'s result. -/
def outV (c : Dev nD) : Vec F S1024x1024 .f32 :=
  proj (headsAt m ρ c (q0 (xst m ρ c) (wqst m ρ c)) 0 (by omega)) (headsAt m ρ c (q1 (xst m ρ c) (wqst m ρ c)) 1 (by omega))
    (headsAt m ρ c (q2 (xst m ρ c) (wqst m ρ c)) 2 (by omega)) (headsAt m ρ c (q3 (xst m ρ c) (wqst m ρ c)) 3 (by omega)) (wost m ρ c)

abbrev xM : MA := Memref.whole cc0_stg0_0
abbrev wqM : MA := Memref.whole cc0_stg1_0
abbrev woM : MA := Memref.whole cc0_stg4_0
abbrev outM : Memref sig .tc .vmem S1024x1024 .f32 := Memref.whole cc0_stg5_0

theorem hz2 : (![0, 0] : Fin 2 → Nat) = fun _ => 0 := funext fun a => by fin_cases a <;> rfl

/-- The last reads and the store. -/
theorem finish_spec (c : Dev nD) (wo : Vec F S1024x1024 .bf16) (o : Vec F S1024x1024 .f32) (out : Vec F S1024x1024 .bf16 → FVec F S1024x1024 .f32)
    (Q : PUnit → sProp 𝕄) :
    iprop(owns (c : Thread nD τ) woM fullShare wo ∗ owns (c : Thread nD τ) outM fullShare o)
      ⊢ iprop(((owns (c : Thread nD τ) woM fullShare wo ∗ owns (c : Thread nD τ) outM fullShare (out wo)) -∗ Q ⟨⟩) -∗ wpc c (finish out) Q) := by
  unfold finish
  iintro ⟨Hwo, Ho⟩ Hk
  iapply (readW_spec c Q woM fullShare wo) $$ Hwo; iintro Hwo
  iapply (readW_spec c Q outM fullShare o) $$ Ho; iintro Ho
  ihave Ho := (Entails.of_eq (owns_whole (c : Thread nD τ) cc0_stg5_0 fullShare o)) $$ Ho
  iapply (wp_store 𝒱₀ (c : Thread nD τ) none Set.univ (m := outM)
    (r := Rect.unit (s := S1024x1024) ![0, 0] S1024x1024.size inb_S1024x1024_S1024x1024_0_0) (Mk := Finset.univ) (Finset.subset_univ _)) $$ Ho
  iintro Ho
  have hw : ((outM : Memref sig .tc .vmem S1024x1024 .f32).access (Rect.unit (s := S1024x1024) ![0, 0] S1024x1024.size inb_S1024x1024_S1024x1024_0_0) : View sig .tc _ _ _).write
      (Elt F) o (out wo) Finset.univ = out wo := Memref.write_access_unit_zero_univ (Elt F) cc0_stg5_0 hz2 _ o (out wo)
  rw [hw, wp_ret]; imodintro
  iapply Hk
  isplitl [Hwo]; · iexact Hwo
  iapply (Entails.of_eq (owns_whole (c : Thread nD τ) cc0_stg5_0 fullShare (out wo)).symm)
  iexact Ho

/-- The two semaphores of each buffer that no transfer uses: held, -/
def spare (c : Dev nD) (b : Fin 4) : sProp 𝕄 := iprop(atPos ER (kcell (c, some (b, 0, 3))) 0 ∅ 0 ∗ atPos ER (kcell (c, some (b, 1, 0))) 0 ∅ 0)
/-- and given up at zero. -/
def spareZ (c : Dev nD) (b : Fin 4) : sProp 𝕄 := iprop(semVal (kcell (c, some (b, 0, 3))) 0 ∗ semVal (kcell (c, some (b, 1, 0))) 0)

theorem spare_close (K : Dev nD × CI → ℕ) (c : Dev nD) (b : Fin 4) : iprop(records m ρ K ∗ spare c b) ⊢ |={Set.univ}=> (spareZ c b : sProp 𝕄) := by
  unfold spare spareZ
  iintro ⟨#HR, H1, H2⟩
  imod (Rounds.cell_close ER (plan m ρ) (Set.mem_univ (K (c, some (b, 0, 3)))) (fun h => h) (R := 0)
    (duties_idle m ρ (kcell (c, some (b, 0, 3))) (by fin_cases b <;> rfl))) $$ [H1] with Hz1
  · isplitr; · iapply (inv_at m ρ K _); iexact HR
    iexact H1
  imod (Rounds.cell_close ER (plan m ρ) (Set.mem_univ (K (c, some (b, 1, 0)))) (fun h => h) (R := 0)
    (duties_idle m ρ (kcell (c, some (b, 1, 0))) (by fin_cases b <;> rfl))) $$ [H2] with Hz2
  · isplitr; · iapply (inv_at m ρ K _); iexact HR
    iexact H2
  imodintro
  isplitl [Hz1] <;> iassumption

/-- The protocol's state on `c` at the start. -/
def ghost (K : Dev nD × CI → ℕ) (c : Dev nD) : sProp 𝕄 :=
  iprop(records m ρ K ∗ atPos ER (barCell c) 0 ∅ 0 ∗ dutyTok ER (barCell (prv c)) 0 false ∗ dutyTok ER (barCell (nxt c)) 0 true
    ∗ four (fun b => idleX c b 0) ∗ four (fun b => idleX c b 1) ∗ four (fun b => idleX c b 2) ∗ four (fun b => spare c b))

/-- The counters at the end. -/
def zeros (c : Dev nD) : sProp 𝕄 :=
  iprop(semVal (barCell c) 0 ∗ four (fun b => zeroX c b 0) ∗ four (fun b => zeroX c b 1) ∗ four (fun b => zeroX c b 2) ∗ four (fun b => spareZ c b))

/-- The staged operands. -/
def operands (c : Dev nD) : sProp 𝕄 :=
  iprop(owns (c : Thread nD τ) xM fullShare (xst m ρ c) ∗ owns (c : Thread nD τ) wqM fullShare (wqst m ρ c)
    ∗ owns (c : Thread nD τ) (opM 0) fullShare (opV m ρ c 0) ∗ owns (c : Thread nD τ) (opM 1) fullShare (opV m ρ c 1)
    ∗ owns (c : Thread nD τ) woM fullShare (wost m ρ c))

/-- The travelling buffers at any contents. -/
def bufs (c : Dev nD) : sProp 𝕄 := four (fun b => someIn c b (bufM b).view.set)

/-- The half shares of an operand's halves, as the first transfers take them, -/
theorem leave_op (c : Dev nD) (b b' : Fin 4) (h : (b = 0 ∧ b' = 2) ∨ (b = 1 ∧ b' = 3)) :
    (owns (c : Thread nD τ) (opM b) fullShare (opV m ρ c b) : sProp 𝕄)
      ⊣⊢ iprop(owns (c : Thread nD τ) (opM b) fullShare.left (opV m ρ c b) ∗ outPay m ρ c b 0 ∗ outPay m ρ c b' 0) := by
  constructor
  · iintro H
    ihave H := (owns_halves (c : Thread nD τ) (opM b) fullShare (opV m ρ c b)).1 $$ H
    icases H with ⟨Hl, Hr⟩
    ihave Hr := (split_op c (opM b) fullShare.right (opV m ρ c b)) $$ Hr
    isplitl [Hl]; · iexact Hl
    rcases h with ⟨rfl, rfl⟩ | ⟨rfl, rfl⟩ <;> iexact Hr
  · iintro ⟨Hl, Hr⟩
    iapply (owns_halves (c : Thread nD τ) (opM b) fullShare (opV m ρ c b)).2
    isplitl [Hl]; · iexact Hl
    iapply (join_op c (opM b) fullShare.right (opV m ρ c b))
    rcases h with ⟨rfl, rfl⟩ | ⟨rfl, rfl⟩ <;> iexact Hr

/-- A buffer back from its parts: the untouched slot and the three filled ones. -/
theorem buf_back (c : Dev nD) (b : Fin 4) (Y₀ Y₁ Y₂ : Vec F S512x1024 .bf16) :
    iprop(someIn c b (slotSet b 0) ∗ owns (c : Thread nD τ) (dstM b 0) fullShare.left Y₀ ∗ owns (c : Thread nD τ) (dstM b 0) fullShare.right Y₀
        ∗ owns (c : Thread nD τ) (dstM b 1) fullShare.left Y₁ ∗ owns (c : Thread nD τ) (dstM b 1) fullShare.right Y₁
        ∗ owns (c : Thread nD τ) (dstM b 2) fullShare Y₂)
      ⊢ (someIn c b (bufM b).view.set : sProp 𝕄) := by
  iintro ⟨H0, L0, R0, L1, R1, H2⟩
  iapply (buf_split c b).2
  unfold give
  isplitl [H0]; · iexact H0
  isplitl [L0 R0]
  · iapply (slot_back c b 0 Y₀); isplitl [L0] <;> iassumption
  isplitl [L1 R1]
  · iapply (slot_back c b 1 Y₁); isplitl [L1] <;> iassumption
  iapply (any_of_owns c b 2 Y₂); iexact H2

end Cert.KernelIdeal.Attn
-- ==== Proof.BodyEq.lean ====
module

public import proofs.«01_k».proof.Proof.Body

/-! The printed body, on the buffers the program calls it with, is the program `body`. -/

@[expose] public section

noncomputable section

namespace Cert.KernelIdeal.Attn

open Idealize.ShloMosaic Idealize.SL.Sem Cert.KernelIdeal Cert.KernelIdeal.Gen

variable {F : FTy → Type} [FloatOps F] [Named F]

/-- The printed body as the pipeline calls it. -/
abbrev printed : P F :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4

set_option maxRecDepth 65536 in
/-- It is `body`. -/
theorem printed_eq : (printed : P F) = body := by
  unfold printed
  rw [cc0_body_eq_skeleton]
  exact rfl

end Cert.KernelIdeal.Attn
-- ==== Proof.Sound.lean ====
module

public import proofs.«01_k».proof.Proof.Run
public import proofs.«01_k».proof.Proof.BodyEq

/-! The body from start to end, and the obligation of the staging library it meets. -/

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)
theorem dev11_eq (c : Dev nD) : (⟨k0_dev11 c, k0_dev11_lt c⟩ : Dev nD) = nxt c := Fin.ext (k0_dev11_eq c)
theorem dev12_eq (c : Dev nD) : (⟨k0_dev12 c, k0_dev12_lt c⟩ : Dev nD) = prv c := Fin.ext (k0_dev12_eq c)
theorem dev13_eq (c : Dev nD) : (⟨k0_dev13 c, k0_dev13_lt c⟩ : Dev nD) = nxt c := Fin.ext (k0_dev13_eq c)
theorem dev14_eq (c : Dev nD) : (⟨k0_dev14 c, k0_dev14_lt c⟩ : Dev nD) = prv c := Fin.ext (k0_dev14_eq c)

/-- The buffers given to the neighbours, the rest kept. -/
theorem bufs_split (c : Dev nD) : (bufs c : sProp 𝕄) ⊢ iprop(four (fun b => someIn c b (slotSet b 0)) ∗ (give c 0 ∗ give c 1) ∗ (give c 2 ∗ give c 3)) := by
  unfold bufs four
  iintro ⟨H0, H1, H2, H3⟩
  ihave H0 := (buf_split (F := F) c 0).1 $$ H0; icases H0 with ⟨A0, G0⟩
  ihave H1 := (buf_split (F := F) c 1).1 $$ H1; icases H1 with ⟨A1, G1⟩
  ihave H2 := (buf_split (F := F) c 2).1 $$ H2; icases H2 with ⟨A2, G2⟩
  ihave H3 := (buf_split (F := F) c 3).1 $$ H3; icases H3 with ⟨A3, G3⟩
  isplitl [A0 A1 A2 A3]
  · isplitl [A0]; · iexact A0
    isplitl [A1]; · iexact A1
    isplitl [A2] <;> iassumption
  isplitl [G0 G1]
  · isplitl [G0] <;> iassumption
  isplitl [G2] <;> iassumption

/-- The neighbours' slots make the transfers ready. -/
theorem make_ready (c : Dev nD) :
    iprop((give (nxt c) 0 ∗ give (nxt c) 1) ∗ (give (prv c) 2 ∗ give (prv c) 3)
        ∗ four (fun b => idleX c b 0) ∗ four (fun b => idleX c b 1) ∗ four (fun b => idleX c b 2))
      ⊢ (iprop(four (fun b => readyX c b 0) ∗ four (fun b => readyX c b 1) ∗ four (fun b => readyX c b 2)) : sProp 𝕄) := by
  have e0 : fw 0 c = nxt c := rfl
  have e1 : fw 1 c = nxt c := rfl
  have e2 : fw 2 c = prv c := rfl
  have e3 : fw 3 c = prv c := rfl
  unfold give four readyX
  simp only [e0, e1, e2, e3]
  iintro ⟨⟨⟨A0, B0, C0⟩, ⟨A1, B1, C1⟩⟩, ⟨⟨A2, B2, C2⟩, ⟨A3, B3, C3⟩⟩, ⟨I0, I1, I2, I3⟩, ⟨J0, J1, J2, J3⟩, ⟨K0, K1, K2, K3⟩⟩
  isplitl [A0 A1 A2 A3 I0 I1 I2 I3]
  · isplitl [A0 I0]; · isplitl [I0] <;> iassumption
    isplitl [A1 I1]; · isplitl [I1] <;> iassumption
    isplitl [A2 I2]; · isplitl [I2] <;> iassumption
    isplitl [I3] <;> iassumption
  isplitl [B0 B1 B2 B3 J0 J1 J2 J3]
  · isplitl [B0 J0]; · isplitl [J0] <;> iassumption
    isplitl [B1 J1]; · isplitl [J1] <;> iassumption
    isplitl [B2 J2]; · isplitl [J2] <;> iassumption
    isplitl [J3] <;> iassumption
  isplitl [C0 K0]; · isplitl [K0] <;> iassumption
  isplitl [C1 K1]; · isplitl [K1] <;> iassumption
  isplitl [C2 K2]; · isplitl [K2] <;> iassumption
  isplitl [K3] <;> iassumption

/-- The right half share of a slot is what the next transfer's departure returns. -/
theorem out_slot (c : Dev nD) (b : Fin 4) (h h' : Fin 3) (hh : (h = 0 ∧ h' = 1) ∨ (h = 1 ∧ h' = 2)) :
    (outPay m ρ c b h' : sProp 𝕄) ⊢ owns (c : Thread nD τ) (dstM b h) fullShare.right (got m ρ c h b) := by
  rcases hh with ⟨rfl, rfl⟩ | ⟨rfl, rfl⟩ <;> exact Entails.of_eq rfl

/-- The buffers back at the end. -/
theorem bufs_back (c : Dev nD) :
    iprop(four (fun b => someIn c b (slotSet b 0)) ∗ slots c 0 fullShare.left (got m ρ c 0) ∗ four (fun b => outPay m ρ c b 1)
        ∗ slots c 1 fullShare.left (got m ρ c 1) ∗ four (fun b => outPay m ρ c b 2) ∗ slots c 2 fullShare (got m ρ c 2))
      ⊢ (bufs c : sProp 𝕄) := by
  unfold bufs four slots
  iintro ⟨⟨A0, A1, A2, A3⟩, ⟨L0, L1, L2, L3⟩, ⟨R0, R1, R2, R3⟩, ⟨M0, M1, M2, M3⟩, ⟨S0, S1, S2, S3⟩, ⟨T0, T1, T2, T3⟩⟩
  isplitl [A0 L0 R0 M0 S0 T0]
  · iapply (buf_back c 0 (got m ρ c 0 0) (got m ρ c 1 0) (got m ρ c 2 0))
    isplitl [A0]; · iexact A0
    isplitl [L0]; · iexact L0
    isplitl [R0]; · iapply (out_slot m ρ c 0 0 1 (.inl ⟨rfl, rfl⟩)); iexact R0
    isplitl [M0]; · iexact M0
    isplitl [S0]; · iapply (out_slot m ρ c 0 1 2 (.inr ⟨rfl, rfl⟩)); iexact S0
    iexact T0
  isplitl [A1 L1 R1 M1 S1 T1]
  · iapply (buf_back c 1 (got m ρ c 0 1) (got m ρ c 1 1) (got m ρ c 2 1))
    isplitl [A1]; · iexact A1
    isplitl [L1]; · iexact L1
    isplitl [R1]; · iapply (out_slot m ρ c 1 0 1 (.inl ⟨rfl, rfl⟩)); iexact R1
    isplitl [M1]; · iexact M1
    isplitl [S1]; · iapply (out_slot m ρ c 1 1 2 (.inr ⟨rfl, rfl⟩)); iexact S1
    iexact T1
  isplitl [A2 L2 R2 M2 S2 T2]
  · iapply (buf_back c 2 (got m ρ c 0 2) (got m ρ c 1 2) (got m ρ c 2 2))
    isplitl [A2]; · iexact A2
    isplitl [L2]; · iexact L2
    isplitl [R2]; · iapply (out_slot m ρ c 2 0 1 (.inl ⟨rfl, rfl⟩)); iexact R2
    isplitl [M2]; · iexact M2
    isplitl [S2]; · iapply (out_slot m ρ c 2 1 2 (.inr ⟨rfl, rfl⟩)); iexact S2
    iexact T2
  iapply (buf_back c 3 (got m ρ c 0 3) (got m ρ c 1 3) (got m ρ c 2 3))
  isplitl [A3]; · iexact A3
  isplitl [L3]; · iexact L3
  isplitl [R3]; · iapply (out_slot m ρ c 3 0 1 (.inl ⟨rfl, rfl⟩)); iexact R3
  isplitl [M3]; · iexact M3
  isplitl [S3]; · iapply (out_slot m ρ c 3 1 2 (.inr ⟨rfl, rfl⟩)); iexact S3
  iexact T3

set_option maxHeartbeats 800000 in
/-- The body, from the protocol's state, the operands, the buffers and the debt, to the result, the operands unchanged,
every counter at zero and nothing owed. -/
theorem body_spec (K : Dev nD × CI → ℕ) (c : Dev nD) (W : Waits sig Unit) (o : Vec F S1024x1024 .f32) (Q : PUnit → sProp 𝕄) :
    iprop((ghost m ρ K c ∗ cred (tallyAt (barCell c) () 2) ∗ levAts L lv ∗ bufs c ∗ operands m ρ c ∗ owns (c : Thread nD τ) outM fullShare o
          ∗ owes (c : Thread nD τ) (O₀ c) W)
        ∗ ((zeros c ∗ bufs c ∗ operands m ρ c ∗ owns (c : Thread nD τ) outM fullShare (outV m ρ c) ∗ owesX c []) -∗ Q ⟨⟩))
      ⊢ wpc c body Q := by
  unfold body wpc
  rw [wp_deviceId]
  unfold ghost operands
  iintro ⟨⟨⟨#HR, HaB, HtP, HtN, I0, I1, I2, Hsp⟩, HcB, #Hlev, Hbufs, ⟨Hx, Hwq, Hk, Hv, Hwo⟩, Hout, HO⟩, HK⟩
  ihave Hb := (bufs_split (F := F) c) $$ Hbufs
  icases Hb with ⟨Hrest, Hg1, Hg2⟩
  iapply (meet_spec m ρ K c _ _ (dev1_eq c) (dev2_eq c) _ Q W) $$ [HaB HcB HtP HtN Hg1 Hg2 HO]
  · isplitr; · iexact HR
    isplitr; · iexact Hlev
    isplitl [HaB]; · iexact HaB
    isplitl [HcB]; · iexact HcB
    isplitl [HtP]; · iexact HtP
    isplitl [HtN]; · iexact HtN
    isplitl [Hg1]; · iexact Hg1
    isplitl [Hg2] <;> iassumption
  iintro ⟨HzB, Hg1, Hg2, HO⟩
  ihave Hr := (make_ready (F := F) c) $$ [Hg1 Hg2 I0 I1 I2]
  · isplitl [Hg1]; · iexact Hg1
    isplitl [Hg2]; · iexact Hg2
    isplitl [I0]; · iexact I0
    isplitl [I1] <;> iassumption
  icases Hr with ⟨R0, R1, R2⟩
  ihave Hk := (leave_op m ρ c 0 2 (.inl ⟨rfl, rfl⟩)).1 $$ Hk
  icases Hk with ⟨Hk, P0, P2⟩
  ihave Hv := (leave_op m ρ c 1 3 (.inr ⟨rfl, rfl⟩)).1 $$ Hv
  icases Hv with ⟨Hv, P1, P3⟩
  unfold order
  iapply (sends0_spec m ρ K c _ _ _ _ (dev3_eq c) (dev4_eq c) (dev5_eq c) (dev6_eq c) _ _ Q) $$ [R0 P0 P1 P2 P3 HO]
  · isplitr; · iexact HR
    isplitl [R0]; · iexact R0
    isplitr [HO]
    · unfold four
      isplitl [P0]; · iexact P0
      isplitl [P1]; · iexact P1
      isplitl [P2] <;> iassumption
    iexact HO
  iintro ⟨F0, HO⟩
  iapply (readW_spec c Q xM fullShare (xst m ρ c)) $$ Hx; iintro Hx
  iapply (readW_spec c Q wqM fullShare (wqst m ρ c)) $$ Hwq; iintro Hwq
  iapply (allA_spec c Q fullShare.left (opV m ρ c 0) (opV m ρ c 1)) $$ [Hk Hv]
  · isplitl [Hk] <;> iassumption
  iintro ⟨Hk, Hv⟩
  iapply (turn_spec m ρ K c 0 1 (.inl ⟨rfl, rfl⟩) _ _ _ _ (dev7_eq c) (dev8_eq c) (dev9_eq c) (dev10_eq c) [(0, 2), (2, 2), (1, 2), (3, 2)] (by decide) _ Q) $$ [F0 R1 HO]
  · isplitr; · iexact HR
    isplitr; · iexact Hlev
    isplitl [F0]; · iexact F0
    isplitl [R1] <;> iassumption
  iintro ⟨Z0, P0, S0, F1, HO⟩
  iapply (allB_spec c Q 0 1 rfl _ fullShare.left (got m ρ c 0)) $$ S0; iintro S0
  iapply (turn_spec m ρ K c 1 2 (.inr ⟨rfl, rfl⟩) _ _ _ _ (dev11_eq c) (dev12_eq c) (dev13_eq c) (dev14_eq c) [] (by decide) _ Q) $$ [F1 R2 HO]
  · isplitr; · iexact HR
    isplitr; · iexact Hlev
    isplitl [F1]; · iexact F1
    isplitl [R2] <;> iassumption
  iintro ⟨Z1, P1, S1, F2, HO⟩
  iapply (allB_spec c Q 1 2 rfl _ fullShare.left (got m ρ c 1)) $$ S1; iintro S1
  iapply (lastTurn_spec m ρ K c _ Q) $$ [F2 HO]
  · isplitr; · iexact HR
    isplitr; · iexact Hlev
    isplitl [F2] <;> iassumption
  iintro ⟨Z2, P2, S2, HO⟩
  iapply (allB_spec c Q 2 3 rfl _ fullShare (got m ρ c 2)) $$ S2; iintro S2
  unfold four
  icases Hsp with ⟨Q0, Q1, Q2, Q3⟩
  imod (spare_close m ρ K c 0) $$ [Q0] with Q0
  · isplitr; · iexact HR
    iexact Q0
  imod (spare_close m ρ K c 1) $$ [Q1] with Q1
  · isplitr; · iexact HR
    iexact Q1
  imod (spare_close m ρ K c 2) $$ [Q2] with Q2
  · isplitr; · iexact HR
    iexact Q2
  imod (spare_close m ρ K c 3) $$ [Q3] with Q3
  · isplitr; · iexact HR
    iexact Q3
  iapply (finish_spec c (wost m ρ c) o _ Q) $$ [Hwo Hout]
  · isplitl [Hwo] <;> iassumption
  iintro ⟨Hwo, Hout⟩
  iapply HK
  icases P0 with ⟨P0, P1', P2', P3⟩
  isplitl [HzB Z0 Z1 Z2 Q0 Q1 Q2 Q3]
  · unfold zeros four
    isplitl [HzB]; · iexact HzB
    isplitl [Z0]; · iexact Z0
    isplitl [Z1]; · iexact Z1
    isplitl [Z2]; · iexact Z2
    isplitl [Q0]; · iexact Q0
    isplitl [Q1]; · iexact Q1
    isplitl [Q2] <;> iassumption
  isplitl [Hrest S0 P1 S1 P2 S2]
  · iapply (bufs_back m ρ c)
    unfold four
    isplitl [Hrest]; · iexact Hrest
    isplitl [S0]; · iexact S0
    isplitl [P1]; · iexact P1
    isplitl [S1]; · iexact S1
    isplitl [P2] <;> iassumption
  isplitr [Hout HO]
  · isplitl [Hx]; · iexact Hx
    isplitl [Hwq]; · iexact Hwq
    isplitl [Hk P0 P2']
    · iapply (leave_op m ρ c 0 2 (.inl ⟨rfl, rfl⟩)).2
      isplitl [Hk]; · iexact Hk
      isplitl [P0] <;> iassumption
    isplitl [Hv P1' P3]
    · iapply (leave_op m ρ c 1 3 (.inr ⟨rfl, rfl⟩)).2
      isplitl [Hv]; · iexact Hv
      isplitl [P1'] <;> iassumption
    iexact Hwo
  isplitl [Hout]
  · iexact Hout
  iexact HO

/-! ## The obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What `c`'s body starts from: the protocol's state, the credits, the levels, -/
def begins (c : Dev nD) : sProp 𝕄 := iprop((∃ K, ghost m ρ K c) ∗ cred (tallyAt (barCell c) () 2) ∗ levAts L lv)
/-- with the buffers; -/
def Φ₀ (c : Dev nD) : sProp 𝕄 := iprop(begins m ρ c ∗ bufs c)
/-- and what it ends with. -/
def Φ₁ (c : Dev nD) : sProp 𝕄 := iprop(zeros c ∗ bufs c)

/-- The staging library's view of the call: the operands stay, the result is `outV`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wqst m ρ c
    | ⟨2, _⟩ => kst m ρ c
    | ⟨3, _⟩ => vst m ρ c
    | ⟨4, _⟩ => wost m ρ c
    | ⟨5, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Before the body: the operands staged, the result at any contents. -/
def bodyPre (c : Dev nD) : sProp 𝕄 :=
  iprop(Φ₀ m ρ c ∗ (dats m ρ 0 c).owesAt () t₀.castSucc
    ∗ (∃ d, owns (c : Thread nD τ) xM fullShare ((dats m ρ 0 c).before (0 : Fin 6) t₀ d))
    ∗ (∃ d, owns (c : Thread nD τ) wqM fullShare ((dats m ρ 0 c).before (1 : Fin 6) t₀ d))
    ∗ (∃ d, owns (c : Thread nD τ) (opM 0) fullShare ((dats m ρ 0 c).before (2 : Fin 6) t₀ d))
    ∗ (∃ d, owns (c : Thread nD τ) (opM 1) fullShare ((dats m ρ 0 c).before (3 : Fin 6) t₀ d))
    ∗ (∃ d, owns (c : Thread nD τ) woM fullShare ((dats m ρ 0 c).before (4 : Fin 6) t₀ d))
    ∗ (∃ d, owns (c : Thread nD τ) outM fullShare ((dats m ρ 0 c).before (5 : Fin 6) t₀ d)))

/-- After it. -/
def bodyPost (c : Dev nD) : sProp 𝕄 :=
  iprop(Φ₁ c ∗ (dats m ρ 0 c).owesAt () t₀.succ ∗ owns (c : Thread nD τ) xM fullShare (xst m ρ c) ∗ owns (c : Thread nD τ) wqM fullShare (wqst m ρ c)
    ∗ owns (c : Thread nD τ) (opM 0) fullShare (kst m ρ c) ∗ owns (c : Thread nD τ) (opM 1) fullShare (vst m ρ c)
    ∗ owns (c : Thread nD τ) woM fullShare (wost m ρ c) ∗ owns (c : Thread nD τ) outM fullShare (outV m ρ c))

theorem fetch_in (w : Fin 6) (hw : w.val < 5) (t : Fin cfg0.N) : (cfg0.win w).fetch t = true := by
  rw [fin_N t]; fin_cases w <;> first | rfl | exact absurd hw (by decide)

set_option maxRecDepth 8000 in
theorem body_pre_post (c : Dev nD) : bodyPre m ρ c ⊢ wpc c printed (fun _ => bodyPost m ρ c) := by
  have b0 (d) : (dats m ρ 0 c).before (0 : Fin 6) t₀ d = xst m ρ c := by unfold Dat.before; rw [if_pos (fetch_in 0 (by decide) t₀)]; rfl
  have b1 (d) : (dats m ρ 0 c).before (1 : Fin 6) t₀ d = wqst m ρ c := by unfold Dat.before; rw [if_pos (fetch_in 1 (by decide) t₀)]; rfl
  have b2 (d) : (dats m ρ 0 c).before (2 : Fin 6) t₀ d = kst m ρ c := by unfold Dat.before; rw [if_pos (fetch_in 2 (by decide) t₀)]; rfl
  have b3 (d) : (dats m ρ 0 c).before (3 : Fin 6) t₀ d = vst m ρ c := by unfold Dat.before; rw [if_pos (fetch_in 3 (by decide) t₀)]; rfl
  have b4 (d) : (dats m ρ 0 c).before (4 : Fin 6) t₀ d = wost m ρ c := by unfold Dat.before; rw [if_pos (fetch_in 4 (by decide) t₀)]; rfl
  rw [printed_eq]
  unfold bodyPre Φ₀ begins Dat.owesAt Pipeline.owesWithin
  simp only [b0, b1, b2, b3, b4]
  rw [show (dats m ρ 0 c).owed t₀.castSucc = O₀ c from rfl]
  iintro ⟨⟨⟨⟨%K, Hg⟩, HcB, Hlev⟩, Hb⟩, ⟨%W, %hW, HO⟩, ⟨%d0, Hx⟩, ⟨%d1, Hwq⟩, ⟨%d2, Hk⟩, ⟨%d3, Hv⟩, ⟨%d4, Hwo⟩, ⟨%d5, Hout⟩⟩
  iapply (body_spec m ρ K c W _ fun _ => bodyPost m ρ c)
  isplitl
  · unfold operands
    isplitl [Hg]; · iexact Hg
    isplitl [HcB]; · iexact HcB
    isplitl [Hlev]; · iexact Hlev
    isplitl [Hb]; · iexact Hb
    isplitl [Hx Hwq Hk Hv Hwo]
    · isplitl [Hx]; · iexact Hx
      isplitl [Hwq]; · iexact Hwq
      isplitl [Hk]; · iexact Hk
      isplitl [Hv]; · iexact Hv
      iexact Hwo
    isplitl [Hout]; · iexact Hout
    iexact HO
  · unfold operands bodyPost Φ₁ Dat.owesAt Pipeline.owesWithin owesX
    rw [show (dats m ρ 0 c).owed t₀.succ = 0 from rfl]
    iintro ⟨Hz, Hb, ⟨Hx, Hwq, Hk, Hv, Hwo⟩, Hout, ⟨%W', HO⟩⟩
    isplitl [Hz Hb]; · isplitl [Hz] <;> iassumption
    isplitl [HO]
    · iexists W'
      isplitr; · ipureintro; exact fun _ _ => Or.inl trivial
      iexact HO
    isplitl [Hx]; · iexact Hx
    isplitl [Hwq]; · iexact Hwq
    isplitl [Hk]; · iexact Hk
    isplitl [Hv]; · iexact Hv
    isplitl [Hwo] <;> iassumption

set_option maxRecDepth 8000 in
/-- The obligation of the staging library on device `c`. -/
theorem body_obligation (c : Dev nD) : BodyObligation (dats (F := F) m ρ 0 c) (defs₀ (F := F)) 𝒱₀ () Set.univ := fun t => by
  rw [fin_N t]
  have e (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ
  rw [e, e]
  exact body_pre_post m ρ c

end Cert.KernelIdeal.Attn
-- ==== Proof.Deal.lean ====
module

public import proofs.«01_k».proof.Proof.Sound
public import Idealize.ShloMosaic.Lib.Pipeline.CollectiveSegs

/-! The launch: the protocol's cells, tokens and credits dealt to the devices, and the run of the whole
program. -/

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Families taken apart -/

theorem four_eq (Φ : Fin 4 → sProp 𝕄) : bigSep Finset.univ Φ = four Φ := bigSep_univ_eq_bigSepL [0, 1, 2, 3] (by decide) (by decide) Φ
theorem three_eq (Φ : Fin 3 → sProp 𝕄) : bigSep Finset.univ Φ = iprop(Φ 0 ∗ Φ 1 ∗ Φ 2) := bigSep_univ_eq_bigSepL [0, 1, 2] (by decide) (by decide) Φ
theorem two_eq (Φ : Fin 2 → sProp 𝕄) : bigSep Finset.univ Φ = iprop(Φ 0 ∗ Φ 1) := bigSep_univ_eq_bigSepL [0, 1] (by decide) (by decide) Φ
theorem bool_eq (Φ : Bool → sProp 𝕄) : bigSep Finset.univ Φ = iprop(Φ false ∗ Φ true) := bigSep_univ_eq_bigSepL [false, true] (by decide) (by decide) Φ
theorem unit_eq (Φ : PUnit.{1} → sProp 𝕄) : bigSep Finset.univ Φ = Φ ⟨⟩ := by
  rw [bigSep_univ_eq_bigSepL [PUnit.unit] (by decide) (by decide) Φ, bigSepL_singleton]

/-- A device's cells: the barrier and the transfer semaphores. -/
theorem cells_eq (Φ : CI → sProp 𝕄) : bigSep Finset.univ Φ = iprop(Φ none ∗ bigSep Finset.univ fun j : OI => Φ (some j)) := by
  rw [bigSep_univ_equiv ((Equiv.sumComm PUnit.{1} OI).trans (Equiv.optionEquivSumPUnit.{0, 0} OI).symm) Φ, bigSep_univ_sum, unit_eq]
  rfl

/-- The transfer semaphores of one buffer, departures and arrivals. -/
def ofBuf (Φ : OI → sProp 𝕄) (b : Fin 4) : sProp 𝕄 :=
  iprop((Φ (b, 0, 0) ∗ Φ (b, 0, 1) ∗ Φ (b, 0, 2) ∗ Φ (b, 0, 3)) ∗ (Φ (b, 1, 0) ∗ Φ (b, 1, 1) ∗ Φ (b, 1, 2) ∗ Φ (b, 1, 3)))

/-- All of them, by buffer. -/
theorem own_eq (Φ : OI → sProp 𝕄) : bigSep Finset.univ Φ = bigSep Finset.univ (ofBuf Φ) := by
  rw [bigSep_univ_prod]
  exact bigSep_congr fun b _ => by rw [bigSep_univ_prod, two_eq, four_eq, four_eq]; rfl

/-! ## Cells and tokens as minted -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CI → SemLoc sig) := by
  rintro (_ | j) (_ | j') h
  · rfl
  · exact absurd h (fun h => nomatch h)
  · exact absurd h (fun h => nomatch h)
  · exact congrArg some (ownSemFacts.inj h)

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one device: its barrier's two, and each transfer's departure (`false`) and arrival (`true`). -/
abbrev TI := Bool ⊕ (Fin 4 × Bool × Fin 3)
abbrev tokOf (cj : Dev nD × TI) : GSem nD τ sig × ℕ × Bool := match cj.2 with
  | .inl d => (barCell cj.1, 0, d)
  | .inr (b, false, h) => (outCell cj.1 b h, 0, false)
  | .inr (b, true, h) => (inCell cj.1 b h, 0, false)

/-- A duty is told by its cell's use. -/
theorem tokOf_role (c : Dev nD) (j : TI) :
    (role (tokOf (c, j)).1.2, (tokOf (c, j)).2.2) = match j with
      | .inl d => (.bar, d) | .inr (b, false, h) => (.out b h, false) | .inr (b, true, h) => (.inn b h, false) := by
  rcases j with d | ⟨b, e, h⟩
  · exact congrArg (·, d) role_bar
  · cases e
    · exact congrArg (·, false) (role_out b h)
    · exact congrArg (·, false) (role_in b h)

theorem tokOf_dev (c : Dev nD) (j : TI) : (tokOf (c, j)).1.1.1 = c := by
  rcases j with d | ⟨b, e, h⟩
  · rfl
  · cases e <;> rfl

theorem tokOf_injective : Function.Injective (tokOf : Dev nD × TI → GSem nD τ sig × ℕ × Bool) := by
  rintro ⟨c, j⟩ ⟨c', j'⟩ h
  have h1 : c = c' := by rw [← tokOf_dev c j, h, tokOf_dev]
  have h2 := tokOf_role c j
  rw [h, tokOf_role] at h2
  have h3 : j = j' := by
    rcases j with d | ⟨b, _ | _, t⟩ <;> rcases j' with d' | ⟨b', _ | _, t'⟩ <;> simp_all
  rw [h1, h3]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The departures' tokens of one buffer on `c`, -/
def outT (c : Dev nD) (b : Fin 4) : sProp 𝕄 :=
  iprop(dutyTok ER (outCell c b 0) 0 false ∗ dutyTok ER (outCell c b 1) 0 false ∗ dutyTok ER (outCell c b 2) 0 false)
/-- and the arrivals'. -/
def inT (c : Dev nD) (b : Fin 4) : sProp 𝕄 :=
  iprop(dutyTok ER (inCell c b 0) 0 false ∗ dutyTok ER (inCell c b 1) 0 false ∗ dutyTok ER (inCell c b 2) 0 false)

/-- The tokens of `c`'s own cells, -/
def toks (c : Dev nD) : sProp 𝕄 :=
  iprop((dutyTok ER (barCell c) 0 false ∗ dutyTok ER (barCell c) 0 true) ∗ bigSep Finset.univ (outT (F := F) c) ∗ bigSep Finset.univ (inT (F := F) c))
/-- and of the duties `c` pays. -/
def payToks (c : Dev nD) : sProp 𝕄 :=
  iprop((dutyTok ER (barCell (prv c)) 0 false ∗ dutyTok ER (barCell (nxt c)) 0 true) ∗ bigSep Finset.univ (outT (F := F) c)
    ∗ bigSep Finset.univ fun b => inT (F := F) (fw b c) b)

theorem toks_eq (c : Dev nD) : (bigSep Finset.univ fun j : TI => (dutyTok ER (tokOf (c, j)).1 (tokOf (c, j)).2.1 (tokOf (c, j)).2.2 : sProp 𝕄)) = toks c := by
  rw [bigSep_univ_sum, bool_eq, bigSep_univ_prod]
  unfold toks
  rw [← bigSep_sep']
  congr 1
  exact bigSep_congr fun b _ => by rw [bigSep_univ_prod, bool_eq, three_eq, three_eq]; rfl

/-- Each device's tokens go to the devices that pay them. -/
theorem toks_around : (bigSep Finset.univ fun c : Dev nD => (toks c : sProp 𝕄)) ⊢ bigSep Finset.univ fun c : Dev nD => payToks c := by
  have hin : (bigSep Finset.univ fun c : Dev nD => bigSep Finset.univ fun b => (inT c b : sProp 𝕄))
      = bigSep Finset.univ fun c : Dev nD => bigSep Finset.univ fun b => inT (fw b c) b := by
    rw [Pipeline.bigSep_univ_comm, Pipeline.bigSep_univ_comm (fun (c : Dev nD) (b : Fin 4) => (inT (fw b c) b : sProp 𝕄))]
    exact bigSep_congr fun b _ => bigSep_univ_equiv (travel b) fun c => (inT c b : sProp 𝕄)
  unfold toks payToks
  rw [bigSep_sep', bigSep_sep', bigSep_sep', bigSep_sep', bigSep_sep', bigSep_sep', hin,
    bigSep_univ_equiv step.symm (fun c : Dev nD => (dutyTok ER (barCell c) 0 false : sProp 𝕄)),
    bigSep_univ_equiv step (fun c : Dev nD => (dutyTok ER (barCell c) 0 true : sProp 𝕄))]
  exact BI.Entails.refl _

/-! ## The protocol funded and allocated -/

/-- What the launch deals device `c`, -/
def G (c : Dev nD) : sProp 𝕄 :=
  iprop((bigSep Finset.univ fun k : CI => roundState ER (plan m ρ) (kcell (c, k)) 0)
    ∗ (bigSep Finset.univ fun k : CI => iprop(atPos ER (kcell (c, k)) 0 ∅ 0 ∗ reached ER (kcell (c, k)) 0)) ∗ toks c)

/-- its positions and the tokens it pays with, -/
def linear (c : Dev nD) : sProp 𝕄 := iprop((bigSep Finset.univ fun k : CI => atPos ER (kcell (c, k)) 0 ∅ 0) ∗ payToks c)
/-- and these with all the records. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (plan m ρ) ringCells ringToks) $$ HX with ⟨Hst, Hr, Hat, Htok⟩
  imodintro
  ihave Hst' := (Entails.of_eq (hX fun g => roundState ER (plan m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the only semaphore outside the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters at zero, as one family. -/
theorem sems0_eq (c : Dev nD) :
    (bigSep Finset.univ fun k : CI => (semVal (kcell (c, k)) 0 : sProp 𝕄))
      = iprop(unscopedSems0 c ∗ Pipeline.ownSems0 (Ix := Unit) (Name := ℕ) (U := UU) (Lvl := ℕ) (Val := Elt F) (τ := τ) osem c) := by
  rw [cells_eq, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (plan m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (plan m ρ) (kcell (c, k)) 0)
      ⊢ (|={Set.univ}=> bigSep Finset.univ fun k => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (plan m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (plan m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (plan m ρ) κ (kcell ck) : sProp 𝕄))) $$ HI
  icases HK with ⟨%K, #HI⟩
  ihave Htk := (toks_around (F := F)) $$ Htok
  iapply (with_persistent (R := records m ρ K) (Φ := linear) fun c _ => by
    unfold G'; iintro H; iexists K; iexact H)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- The global step: every semaphore of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem in_ne_bar (b : Fin 4) (h : Fin 3) : (SemLoc.dma (sR b h) : SemLoc sig) ≠ .reg barS := fun h => nomatch h

theorem bar_eq_iff {a b : Dev nD} : Iff (barCell a = barCell b) (a = b) :=
  ⟨fun h => congrArg (fun g : GSem nD τ sig => g.1.1) h, fun h => h ▸ rfl⟩

theorem sR_injective {b b' : Fin 4} {h h' : Fin 3} (e : (SemLoc.dma (sR b h) : SemLoc sig) = .dma (sR b' h')) : (b, h) = (b', h') := by
  have e' := congrArg role e
  rw [role_in, role_in] at e'
  injection e' with e1 e2
  rw [e1, e2]

/-- No arrival is owed at a barrier. -/
theorem OW_bar (d c : Dev nD) (l : List (Fin 4 × Fin 3)) : OW d l (barCell c) () = 0 := by
  by_contra hn
  obtain ⟨t, _, h⟩ := OW_pos (Nat.pos_of_ne_zero hn)
  exact in_ne_bar t.1 t.2 (congrArg Prod.snd h).symm

theorem owed_bar (d c : Dev nD) : O₀ d (barCell c) () = (if d = prv c then 1 else 0) + (if d = nxt c then 1 else 0) := by
  unfold O₀ O₁
  rw [Pi.add_apply, Finsupp.add_apply, Pi.add_apply, Finsupp.add_apply, OW_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- What `d` owes at an arrival cell: a transfer's credit for each time the transfer is listed, if `d` sends there. -/
theorem OW_in (d c : Dev nD) (b : Fin 4) (h : Fin 3) (l : List (Fin 4 × Fin 3)) :
    OW d l (inCell c b h) () = l.count (b, h) * (if d = bk b c then N else 0) := by
  induction l with
  | nil => rw [List.count_nil, Nat.zero_mul]; rfl
  | cons t l ih =>
    unfold OW
    rw [Pi.add_apply, Finsupp.add_apply, ih, tallyAt_apply, List.count_cons, Nat.add_mul]
    congr 1
    by_cases ht : t = (b, h)
    · subst ht
      by_cases hd : d = bk b c
      · subst hd; rw [fw_bk, if_pos ⟨rfl, rfl⟩]; simp
      · rw [if_neg (fun ⟨h1, _⟩ => hd (by
          rw [← bk_fw b d]; exact congrArg (bk b) (congrArg (fun g : GSem nD τ sig => g.1.1) h1).symm)), if_neg hd, Nat.mul_zero]
    · rw [if_neg (fun ⟨h1, _⟩ => ht (sR_injective (congrArg Prod.snd h1)).symm)]
      simp [ht]

theorem order_count (b : Fin 4) (h : Fin 3) : order.count (b, h) = 1 := by revert b h; decide

theorem owed_in (d c : Dev nD) (b : Fin 4) (h : Fin 3) : O₀ d (inCell c b h) () = if d = bk b c then N else 0 := by
  unfold O₀ O₁
  rw [Pi.add_apply, Finsupp.add_apply, Pi.add_apply, Finsupp.add_apply, OW_in, order_count, Nat.one_mul,
    tallyAt_ne_cell (fun e => in_ne_bar b h (congrArg Prod.snd e)), tallyAt_ne_cell (fun e => in_ne_bar b h (congrArg Prod.snd e)), Finsupp.zero_apply,
    Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_in (c : Dev nD) (b : Fin 4) (h : Fin 3) :
    tallyOn (inCell c b h) (launchCredit (Pipeline.owing O₀) 0 (inCell c b h)) = (tallyAt (inCell c b h) () N : CellTallies nD τ sig Unit) := by
  unfold tallyAt; refine congrArg _ (Finsupp.ext fun u => ?_); cases u
  rw [Pipeline.launchCredit_owing, Finsupp.single_eq_same, Finset.sum_congr rfl fun d _ => owed_in d c b h, Finset.sum_ite_eq' Finset.univ (bk b c) fun _ => N,
    if_pos (Finset.mem_univ _)]

/-- The credits of one buffer's arrivals. -/
def inC (c : Dev nD) (b : Fin 4) : sProp 𝕄 :=
  iprop(cred (tallyAt (inCell c b 0) () N) ∗ cred (tallyAt (inCell c b 1) () N) ∗ cred (tallyAt (inCell c b 2) () N))

theorem creds (c : Dev nD) :
    (Pipeline.launchCred O₀ c : sProp 𝕄) ⊢ iprop(cred (tallyAt (barCell c) () 2) ∗ bigSep Finset.univ (inC c)) := by
  unfold Pipeline.launchCred
  rw [bigSep_univ_at _ (SemLoc.reg barS), launch_bar]
  refine sep_mono_right ?_
  let e : Fin 4 × Fin 3 ↪ SemLoc sig := ⟨fun t => .dma (sR t.1 t.2), fun t t' h => sR_injective h⟩
  refine (bigSep_subset (t := Finset.univ.map e) fun x hx => ?_).trans ?_
  · obtain ⟨t, _, rfl⟩ := Finset.mem_map.mp hx
    exact Finset.mem_erase.mpr ⟨in_ne_bar t.1 t.2, Finset.mem_univ _⟩
  · rw [bigSep_map, bigSep_univ_prod]
    refine Entails.of_eq (bigSep_congr fun b _ => ?_)
    unfold inC
    rw [three_eq, ← launch_in, ← launch_in, ← launch_in]
    rfl

/-! ## The side conditions -/

/-- The body's ghost state from its three parts. -/
theorem ghost_intro (K : Dev nD × CI → ℕ) (c : Dev nD) : iprop(records m ρ K ∗ linear c ∗ bigSep Finset.univ (inC c)) ⊢ ghost m ρ K c := by
  unfold linear payToks ghost
  rw [cells_eq, own_eq]
  iintro ⟨#HR, ⟨⟨HaB, Ha⟩, ⟨HtP, HtN⟩, Hto, Hti⟩, Hc⟩
  isplitr; · iexact HR
  isplitl [HaB]; · iexact HaB
  isplitl [HtP]; · iexact HtP
  isplitl [HtN]; · iexact HtN
  have key : iprop(bigSep Finset.univ (ofBuf fun j : OI => atPos ER (kcell (c, some j)) 0 ∅ 0) ∗ bigSep Finset.univ (outT (F := F) c)
      ∗ (bigSep Finset.univ fun b => inT (F := F) (fw b c) b) ∗ bigSep Finset.univ (inC c))
      ⊢ (iprop(four (fun b => idleX c b 0) ∗ four (fun b => idleX c b 1) ∗ four (fun b => idleX c b 2) ∗ four (fun b => spare c b)) : sProp 𝕄) := by
    simp only [← four_eq, ← bigSep_sep']
    refine bigSep_mono fun b _ => ?_
    show (_ : sProp 𝕄) ⊢ _
    unfold ofBuf outT inT inC idleX spare
    rw [← kcell_out c b 0, ← kcell_out c b 1, ← kcell_out c b 2, ← kcell_in c b 0, ← kcell_in c b 1, ← kcell_in c b 2]
    iintro ⟨⟨⟨A0, A1, A2, A3⟩, B0, B1, B2, B3⟩, ⟨O0, O1, O2⟩, ⟨I0, I1, I2⟩, C0, C1, C2⟩
    isplitl [A0 B1 O0 I0 C0]
    · isplitl [A0]; · iexact A0
      isplitl [B1]; · iexact B1
      isplitl [O0]; · iexact O0
      isplitl [I0]; · iexact I0
      iexact C0
    isplitl [A1 B2 O1 I1 C1]
    · isplitl [A1]; · iexact A1
      isplitl [B2]; · iexact B2
      isplitl [O1]; · iexact O1
      isplitl [I1]; · iexact I1
      iexact C1
    isplitl [A2 B3 O2 I2 C2]
    · isplitl [A2]; · iexact A2
      isplitl [B3]; · iexact B3
      isplitl [O2]; · iexact O2
      isplitl [I2]; · iexact I2
      iexact C2
    isplitl [A3]; · iexact A3
    iexact B0
  iapply key
  isplitl [Ha]; · iexact Ha
  isplitl [Hto]; · iexact Hto
  isplitl [Hti]; · iexact Hti
  iexact Hc

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begins m ρ c ∗ emp) := by
  iintro ⟨-, Hlev, Hcr, -, HG⟩
  ihave Hc := (creds (F := F) c) $$ Hcr
  unfold begins G'
  icases Hc with ⟨H1, HN⟩
  icases HG with ⟨%K, HR, HL⟩
  imodintro
  isplitl
  · isplitl [HR HL HN]
    · iexists K
      iapply (ghost_intro m ρ K c)
      isplitl [HR]; · iexact HR
      isplitl [HL]; · iexact HL
      iexact HN
    isplitl [H1]; · iexact H1
    iexact Hlev
  · iempintro

/-- The buffers are the call's scratch. -/
theorem bufs_eq (c : Dev nD) : (Pipeline.scopedRest cfg0.spec c : sProp 𝕄) = bufs c := by
  rw [scopedRest0_eq]
  unfold bufs four someIn
  dsimp only
  rw [show (bufM 0).view.set = Finset.univ from View.set_whole _, show (bufM 1).view.set = Finset.univ from View.set_whole _,
    show (bufM 2).view.set = Finset.univ from View.set_whole _, show (bufM 3).view.set = Finset.univ from View.set_whole _]
  rfl

theorem phi0_intro (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs]; · iexact Hs
  iexact Hr

theorem zeros_exit (c : Dev nD) : (zeros c : sProp 𝕄) ⊢ iprop(unscopedSems0 c ∗ Pipeline.ownSems0 osem c) := by
  have key : (iprop(four (fun b => zeroX c b 0) ∗ four (fun b => zeroX c b 1) ∗ four (fun b => zeroX c b 2) ∗ four (fun b => spareZ c b)) : sProp 𝕄)
      ⊢ bigSep Finset.univ (ofBuf fun j : OI => semVal (kcell (c, some j)) 0) := by
    simp only [← four_eq, ← bigSep_sep']
    refine bigSep_mono fun b _ => ?_
    show (_ : sProp 𝕄) ⊢ _
    unfold ofBuf zeroX spareZ
    rw [← kcell_out c b 0, ← kcell_out c b 1, ← kcell_out c b 2, ← kcell_in c b 0, ← kcell_in c b 1, ← kcell_in c b 2]
    iintro ⟨⟨A0, B1⟩, ⟨A1, B2⟩, ⟨A2, B3⟩, A3, B0⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  rw [← sems0_eq, cells_eq, own_eq]
  unfold zeros
  exact sep_mono_right key

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  iintro ⟨Hz, Hb⟩
  ihave H := (zeros_exit (F := F) c) $$ Hz
  icases H with ⟨H1, H2⟩
  isplitl [H1]; · iexact H1
  isplitl [H2]; · iexact H2
  iexact Hb

theorem waits_all (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage₀ c _ (by fin_cases w <;> fin_cases s <;> rfl)
    · exact mayWait_zero c _

/-! ## The run -/

/-- The arrays after the call. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, from any memory and zero counters, every fair execution ends, with each array of the call at
    its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_all m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := begins m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Attn
-- ==== Proof.Frames.lean ====
module

public import proofs.«01_k».proof.Defs
public import proofs.«01_k».proof.Proof.Deal
public import proofs.«01_k».proof.Proof.Gen.Kernel
public import proofs.«01_k».proof.Proof.Gen.ReferenceIdeal.Run

/-! What the run leaves: the operands of the call as they were, the result at `outV`; and from it the frames of the
kernel and of the reference. -/

@[expose] public section

noncomputable section

namespace Cert.KernelIdeal.Attn

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

theorem final_x (c : Dev nD) : finalA m ρ c 0 = m ((c : Thread nD τ).loc main_arg0) := (dats m ρ 0 c).arrAt_in 0 rfl _
theorem final_wq (c : Dev nD) : finalA m ρ c 1 = m ((c : Thread nD τ).loc main_arg1) := (dats m ρ 0 c).arrAt_in 1 rfl _
theorem final_k (c : Dev nD) : finalA m ρ c 2 = m ((c : Thread nD τ).loc main_arg2) := (dats m ρ 0 c).arrAt_in 2 rfl _
theorem final_v (c : Dev nD) : finalA m ρ c 3 = m ((c : Thread nD τ).loc main_arg3) := (dats m ρ 0 c).arrAt_in 3 rfl _
theorem final_wo (c : Dev nD) : finalA m ρ c 4 = m ((c : Thread nD τ).loc main_arg4) := (dats m ρ 0 c).arrAt_in 4 rfl _

/-- The five operands unchanged. -/
def Kept (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem kept_of (r : PUnit × MemSt nD τ sig (Elt F)) (h : QC m ρ r) (c : Dev nD) : Kept m c r.2 :=
  ⟨(h c 0).trans (final_x m ρ c), (h c 1).trans (final_wq m ρ c), (h c 2).trans (final_k m ρ c),
    (h c 3).trans (final_v m ρ c), (h c 4).trans (final_wo m ρ c)⟩

/-- The run keeps the operands and ends with every counter at zero. -/
theorem run_kept : θ_run defs (onTc (τ := τ) (main (F := F))) ⟨m, fun _ => 0, ρ⟩ (fun r => (∀ c, Kept m c r.2) ∧ r.2.sem = fun _ => 0) :=
  (θ_run defs _ _).mono (fun r h => ⟨kept_of m ρ r h.1, h.2⟩) (run_main m ρ)

/-- The reading of a name as the word that it stands for: the kernel's own. -/
@[reducible] def words (F : FTy → Type) [FloatOps F] : Named F := ⟨fun _ _ _ b => Scalar.ofBits _ b⟩

section
variable {F : FTy → Type} [FloatOps F]
local instance : Named F := words F

theorem tags_eq : Cert.Kernel.Λ₀ = Λ₀ := rfl
set_option maxRecDepth 65536 in
theorem bodies_eq (a0 : Memref sig .tc .vmem S1024x1024 .bf16) (h0 : a0.IsWhole) (a1 : Memref sig .tc .vmem S1024x1024 .bf16) (h1 : a1.IsWhole) (a2 : Memref sig .tc .vmem S1024x1024 .bf16) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S4x512x1024 .bf16) (h6 : a6.IsWhole) (a7 : Memref sig .tc .vmem S4x512x1024 .bf16) (h7 : a7.IsWhole) (a8 : Memref sig .tc .vmem S4x512x1024 .bf16) (h8 : a8.IsWhole) (a9 : Memref sig .tc .vmem S4x512x1024 .bf16) (h9 : a9.IsWhole) (a10 : DmaSems sig S4x2x4) :
  (Cert.Kernel.cc0_body (F := F) a0 h0 a1 h1 a2 h2 a3 h3 a4 h4 a5 h5 a6 h6 a7 h7 a8 h8 a9 h9 a10) = cc0_body (F := F) a0 h0 a1 h1 a2 h2 a3 h3 a4 h4 a5 h5 a6 h6 a7 h7 a8 h8 a9 h9 a10 := rfl
theorem tables_eq : (Cert.Kernel.defs₀ (F := F) : Defs nD τ sig (Elt F) Λ₀) = defs₀ (F := F) := by
  unfold Cert.Kernel.defs₀ defs₀
  refine congrArg Defs.onTc (funext fun l => funext fun a => ?_)
  match l, a with
  | ⟨0, _⟩, (t, s) => exact bodies_eq _ _ _ _ _ _ _ _ _ _ _ _ _ _ _ _ _ _ _ _ _
theorem cfgs_eq : Cert.Kernel.cfgs = cfgs := rfl
theorem pcfgs_eq : Cert.Kernel.pcfgs (F := F) = pcfgs (F := F) := rfl
theorem mains_eq : Cert.Kernel.main (F := F) = main (F := F) := rfl
theorem defs_same : Cert.Kernel.defs (F := F) = defs (F := F) := by
  unfold Cert.Kernel.defs defs
  rw [← tables_eq]
  rfl
end

theorem frame_kernel : Cert.quiescent_Kernel := fun m ρ _ => by
  letI := words Bits
  have := run_kept (F := Bits) m ρ
  rw [← defs_same, ← mains_eq] at this
  exact this
theorem frame_ideal : Cert.quiescent_KernelIdeal := fun m ρ _ => run_kept (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.KernelIdeal.Attn
-- ==== Proof.Soft.lean ====
module

public import Idealize.ShloMosaic.Lib.Pointwise

/-! The mathematics of the attention on extended reals, away from any program: a softmax taken block
by block with a running maximum, sum and weighted sum is the softmax taken at once over all columns,
the columns left out of a mask counting nothing. Scores are real, values are any extended reals. -/

@[expose] public section

noncomputable section

namespace Cert.Soft

open Idealize.ShloMosaic

/-- A sum times a real number that isn't negative is the sum of the products. -/
theorem sum_mul {ι : Type*} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    rw [mul_comm, EReal.left_distrib_of_nonneg_of_ne_top (by exact_mod_cast hr) (EReal.coe_ne_top r),
      mul_comm _ (f a), mul_comm _ (∑ i ∈ t, f i)]

/-- A finite sum of reals is real. -/
theorem coe_sum {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The greatest of finitely many extended reals. -/
def top {ι : Type*} [Fintype ι] (f : ι → EReal) : EReal := Finset.univ.fold max ⊥ f

theorem top_eq_sup {ι : Type*} [Fintype ι] (f : ι → EReal) : top f = Finset.univ.sup f := rfl

theorem le_top' {ι : Type*} [Fintype ι] (f : ι → EReal) (i : ι) : f i ≤ top f := by
  rw [top_eq_sup]; exact Finset.le_sup (Finset.mem_univ i)

theorem top_le {ι : Type*} [Fintype ι] (f : ι → EReal) (b : EReal) (h : ∀ i, f i ≤ b) : top f ≤ b := by
  rw [top_eq_sup]; exact Finset.sup_le fun i _ => h i

/-- The greatest of finitely many reals is real. -/
theorem top_real {ι : Type*} [Fintype ι] [Nonempty ι] (x : ι → ℝ) : ∃ r : ℝ, top (fun i => (x i : EReal)) = r := by
  obtain ⟨i, _, hi⟩ := Finset.exists_mem_eq_sup (Finset.univ : Finset ι) Finset.univ_nonempty (fun i => (x i : EReal))
  exact ⟨x i, hi⟩

/-- The weight of a score `s` under the maximum `m`. -/
def wt (s m : EReal) : EReal := Ideal.exp (s - m)

theorem wt_coe (s m : ℝ) : wt s m = (Real.exp (s - m) : ℝ) := by
  unfold wt; rw [← EReal.coe_sub, Ideal.exp_coe]

section block
variable {J : Type*} [Fintype J] [Nonempty J]

/-- The sum of a block's weights. -/
def lsum (x : J → EReal) (m : EReal) : EReal := ∑ j, wt (x j) m
/-- The block's values weighted. -/
def asum (x v : J → EReal) (m : EReal) : EReal := ∑ j, wt (x j) m * v j

theorem lsum_real (x : J → ℝ) (m : ℝ) :
    lsum (fun j => (x j : EReal)) m = ((∑ j, Real.exp (x j - m) : ℝ) : EReal) := by
  unfold lsum; rw [← coe_sum]; exact Finset.sum_congr rfl fun j _ => wt_coe _ _

/-- A block's weights carried from one maximum to another. -/
theorem lsum_move (x : J → ℝ) (m m' : ℝ) :
    lsum (fun j => (x j : EReal)) m * Ideal.exp ((m : EReal) - m') = lsum (fun j => (x j : EReal)) m' := by
  rw [← EReal.coe_sub, Ideal.exp_coe, lsum, sum_mul _ _ _ (Real.exp_pos _).le, lsum]
  refine Finset.sum_congr rfl fun j _ => ?_
  rw [wt_coe, wt_coe, ← EReal.coe_mul, ← Real.exp_add]; congr 2; ring

theorem asum_move (x : J → ℝ) (v : J → EReal) (m m' : ℝ) :
    asum (fun j => (x j : EReal)) v m * Ideal.exp ((m : EReal) - m') = asum (fun j => (x j : EReal)) v m' := by
  rw [← EReal.coe_sub, Ideal.exp_coe, asum, sum_mul _ _ _ (Real.exp_pos _).le, asum]
  refine Finset.sum_congr rfl fun j _ => ?_
  rw [wt_coe, wt_coe, mul_assoc, mul_comm (v j), ← mul_assoc, ← EReal.coe_mul, ← Real.exp_add]; congr 3; ring

theorem mul_add_exp (a b : EReal) (m m' : ℝ) :
    (a + b) * Ideal.exp ((m : EReal) - m') = a * Ideal.exp ((m : EReal) - m') + b * Ideal.exp ((m : EReal) - m') := by
  rw [← EReal.coe_sub, Ideal.exp_coe, mul_comm, EReal.left_distrib_of_nonneg_of_ne_top
    (by exact_mod_cast (Real.exp_pos _).le) (EReal.coe_ne_top _), mul_comm, mul_comm _ b]

/-- Four blocks one after another: what the running maximum, sum and weighted sum end at. -/
def onl (x0 x1 x2 x3 v0 v1 v2 v3 : J → EReal) : EReal :=
  let m0 := top x0
  let m1 := max m0 (top x1)
  let m2 := max m1 (top x2)
  let m3 := max m2 (top x3)
  let l1 := lsum x0 m0 * Ideal.exp (m0 - m1) + lsum x1 m1
  let l2 := l1 * Ideal.exp (m1 - m2) + lsum x2 m2
  let l3 := l2 * Ideal.exp (m2 - m3) + lsum x3 m3
  let a1 := asum x0 v0 m0 * Ideal.exp (m0 - m1) + asum x1 v1 m1
  let a2 := a1 * Ideal.exp (m1 - m2) + asum x2 v2 m2
  let a3 := a2 * Ideal.exp (m2 - m3) + asum x3 v3 m3
  Ideal.div a3 l3

/-- Over real scores that is each value times its weight over the sum of all weights, summed. -/
theorem onl_eq (x : Fin 4 → J → ℝ) (v : Fin 4 → J → EReal) :
    onl (fun j => (x 0 j : EReal)) (fun j => (x 1 j : EReal)) (fun j => (x 2 j : EReal)) (fun j => (x 3 j : EReal))
        (v 0) (v 1) (v 2) (v 3)
      = ∑ p : Fin 4 × J, v p.1 p.2 * Ideal.div (wt (x p.1 p.2) (top fun p : Fin 4 × J => (x p.1 p.2 : EReal)))
          (lsum (fun p : Fin 4 × J => (x p.1 p.2 : EReal)) (top fun p : Fin 4 × J => (x p.1 p.2 : EReal))) := by
  obtain ⟨t0, h0⟩ := top_real (x 0)
  obtain ⟨t1, h1⟩ := top_real (x 1)
  obtain ⟨t2, h2⟩ := top_real (x 2)
  obtain ⟨t3, h3⟩ := top_real (x 3)
  have e1 : max (t0 : EReal) t1 = ((max t0 t1 : ℝ) : EReal) := (EReal.coe_strictMono.monotone.map_max).symm
  have e2 : max ((max t0 t1 : ℝ) : EReal) t2 = ((max (max t0 t1) t2 : ℝ) : EReal) := (EReal.coe_strictMono.monotone.map_max).symm
  have e3 : max ((max (max t0 t1) t2 : ℝ) : EReal) t3 = ((max (max (max t0 t1) t2) t3 : ℝ) : EReal) :=
    (EReal.coe_strictMono.monotone.map_max).symm
  have hM : (top fun p : Fin 4 × J => (x p.1 p.2 : EReal)) = ((max (max (max t0 t1) t2) t3 : ℝ) : EReal) := by
    rw [← e3, ← e2, ← e1, ← h0, ← h1, ← h2, ← h3]
    refine le_antisymm (top_le _ _ ?_) ?_
    · rintro ⟨s, j⟩
      fin_cases s
      · exact ((le_top' (fun j => (x 0 j : EReal)) j).trans (le_max_left _ _)).trans ((le_max_left _ _).trans (le_max_left _ _))
      · exact ((le_top' (fun j => (x 1 j : EReal)) j).trans (le_max_right _ _)).trans ((le_max_left _ _).trans (le_max_left _ _))
      · exact ((le_top' (fun j => (x 2 j : EReal)) j).trans (le_max_right _ _)).trans (le_max_left _ _)
      · exact (le_top' (fun j => (x 3 j : EReal)) j).trans (le_max_right _ _)
    · refine max_le (max_le (max_le ?_ ?_) ?_) ?_ <;> refine top_le _ _ fun j => ?_
      · exact le_top' (fun p : Fin 4 × J => (x p.1 p.2 : EReal)) (0, j)
      · exact le_top' (fun p : Fin 4 × J => (x p.1 p.2 : EReal)) (1, j)
      · exact le_top' (fun p : Fin 4 × J => (x p.1 p.2 : EReal)) (2, j)
      · exact le_top' (fun p : Fin 4 × J => (x p.1 p.2 : EReal)) (3, j)
  rw [hM]
  unfold onl
  simp only [h0, h1, h2, h3, e1, e2, e3, lsum_move, asum_move, mul_add_exp]
  generalize max (max (max t0 t1) t2) t3 = M
  have hl : lsum (fun j => (x 0 j : EReal)) M + lsum (fun j => (x 1 j : EReal)) M + lsum (fun j => (x 2 j : EReal)) M
      + lsum (fun j => (x 3 j : EReal)) M = lsum (fun p : Fin 4 × J => (x p.1 p.2 : EReal)) M := by
    unfold lsum; rw [Fintype.sum_prod_type, Fin.sum_univ_four]
  have ha : asum (fun j => (x 0 j : EReal)) (v 0) M + asum (fun j => (x 1 j : EReal)) (v 1) M
      + asum (fun j => (x 2 j : EReal)) (v 2) M + asum (fun j => (x 3 j : EReal)) (v 3) M
      = asum (fun p : Fin 4 × J => (x p.1 p.2 : EReal)) (fun p => v p.1 p.2) M := by
    unfold asum; rw [Fintype.sum_prod_type, Fin.sum_univ_four]
  rw [hl, ha, lsum_real (fun p : Fin 4 × J => x p.1 p.2)]
  have hpos : 0 < ∑ p : Fin 4 × J, Real.exp (x p.1 p.2 - M) :=
    Finset.sum_pos (fun p _ => Real.exp_pos _) Finset.univ_nonempty
  have hne : ((∑ p : Fin 4 × J, Real.exp (x p.1 p.2 - M) : ℝ) : EReal) ≠ 0 := by exact_mod_cast hpos.ne'
  unfold Ideal.div asum
  simp only [if_neg hne]
  rw [← EReal.coe_inv, sum_mul _ _ _ (inv_nonneg.2 hpos.le)]
  exact Finset.sum_congr rfl fun p _ => by rw [mul_comm (wt _ _), mul_assoc]

end block

section masked
variable {I K : Type*} [Fintype I] [Nonempty I] [Fintype K]

/-- A softmax over all columns, those outside the mask at minus infinity, is the one over the mask's columns. -/
theorem masked_eq (φ : I → K) (hφ : Function.Injective φ) (B : K → Prop) [DecidablePred B] (hB : ∀ k, B k ↔ ∃ i, φ i = k)
    (y : K → ℝ) (v : K → EReal) (M S : EReal) (z : K → EReal) (hz : ∀ k, z k = if B k then (y k : EReal) else ⊥)
    (hM : M = top z) (hS : S = ∑ k, wt (z k) M) :
    ∑ k, v k * Ideal.div (wt (z k) M) S
      = ∑ i, v (φ i) * Ideal.div (wt (y (φ i)) (top fun i => (y (φ i) : EReal)))
          (lsum (fun i => (y (φ i) : EReal)) (top fun i => (y (φ i) : EReal))) := by
  have hin : ∀ i, z (φ i) = (y (φ i) : EReal) := fun i => by rw [hz, if_pos ((hB _).2 ⟨i, rfl⟩)]
  have hout : ∀ k, k ∉ Set.range φ → z k = ⊥ := fun k hk => by
    rw [hz, if_neg fun h => hk ((hB _).1 h)]
  have hM' : M = top fun i => (y (φ i) : EReal) := by
    rw [hM]
    refine le_antisymm (top_le _ _ fun k => ?_) (top_le _ _ fun i => ?_)
    · by_cases hk : k ∈ Set.range φ
      · obtain ⟨i, rfl⟩ := hk
        rw [hin]; exact le_top' (fun i => (y (φ i) : EReal)) i
      · rw [hout k hk]; exact bot_le
    · rw [← hin]; exact le_top' z (φ i)
  obtain ⟨r, hr⟩ := top_real fun i => y (φ i)
  have hz0 : ∀ k, k ∉ Set.range φ → wt (z k) M = 0 := fun k hk => by
    rw [hout k hk, hM', hr]; unfold wt; rw [EReal.bot_sub]; exact Ideal.exp_bot
  have hS' : S = lsum (fun i => (y (φ i) : EReal)) M := by
    rw [hS, lsum]
    exact (Fintype.sum_of_injective φ hφ _ _ (fun k hk => hz0 k hk) fun i => by rw [hin]).symm
  have hSr : ∃ q : ℝ, q ≠ 0 ∧ S = q := by
    rw [hS', hM', hr, lsum_real fun i => y (φ i)]
    exact ⟨_, (Finset.sum_pos (fun p _ => Real.exp_pos _) Finset.univ_nonempty).ne', rfl⟩
  rw [← hM', ← hS']
  refine (Fintype.sum_of_injective φ hφ _ _ (fun k hk => ?_) fun i => ?_).symm
  · obtain ⟨q, hq, hSq⟩ := hSr
    have hne : (q : EReal) ≠ 0 := by exact_mod_cast hq
    rw [hz0 k hk, hSq, Ideal.div, if_neg hne, zero_mul, mul_zero]
  · rw [hin]

end masked

end Cert.Soft
-- ==== Proof.KVal.lean ====
module

public import proofs.«01_k».proof.Proof.Vals
public import proofs.«01_k».proof.Proof.Soft

/-! The kernel's steps read at an index, at the ideal values. -/

@[expose] public section

noncomputable section

namespace Cert.KernelIdeal.Attn

open Idealize.ShloMosaic Idealize.SL.Sem Cert.KernelIdeal Cert.KernelIdeal.Gen

section head
variable (o : ℕ) (ho : S256x1024.Slices ![0, o] S256x128)

theorem col_lt (ho : S256x1024.Slices ![0, o] S256x128) (d : Fin 128) : o + d.val < 1024 := by
  have h : o + 128 ≤ 1024 := ho.2 1
  omega

theorem scr_at (q k : FVec Ideal S256x1024 .bf16) (a b : Fin 256) : scr o ho q k (ix2 a b)
    = ∑ d : Fin 128, q (ix2 a ⟨o + d.val, col_lt o ho d⟩) * k (ix2 b ⟨o + d.val, col_lt o ho d⟩) := by
  pointwise [scr]

theorem rmax_at (s : FVec Ideal S256x256 .f32) (a : Fin 256) : rmax s (ix2 a 0) = Cert.Soft.top fun b => s (ix2 a b) := by
  have hb : Ideal.ofBits .f32 0xFF800000#32 = ⊥ := by simp [Ideal.ofBits, Ideal.ieee]
  unfold Cert.Soft.top
  rw [← hb]
  pointwise [rmax]

theorem rsum_at (s : FVec Ideal S256x256 .f32) (a : Fin 256) : rsum s (ix2 a 0) = ∑ b : Fin 256, s (ix2 a b) := by
  pointwise [rsum]

theorem wts_at (s : FVec Ideal S256x256 .f32) (m : FVec Ideal S256x1 .f32) (a b : Fin 256) :
    wts s m (ix2 a b) = Cert.Soft.wt (s (ix2 a b)) (m (ix2 a 0)) := by
  pointwise [wts]
  rfl

theorem pv_at (w : FVec Ideal S256x256 .f32) (v : FVec Ideal S256x1024 .bf16) (a : Fin 256) (d : Fin 128) :
    pv o ho w v (ix2 a d) = ∑ b : Fin 256, w (ix2 a b) * v (ix2 b ⟨o + d.val, col_lt o ho d⟩) := by
  pointwise [pv]

theorem corr_at (m m' : FVec Ideal S256x1 .f32) (a : Fin 256) :
    corr m m' (ix2 a 0) = Ideal.exp (m (ix2 a 0) - m' (ix2 a 0)) := by
  pointwise [corr]

theorem mstep_at (m : FVec Ideal S256x1 .f32) (s : FVec Ideal S256x256 .f32) (a : Fin 256) :
    mstep m s (ix2 a 0) = max (m (ix2 a 0)) (Cert.Soft.top fun b => s (ix2 a b)) := by
  rw [← rmax_at]
  pointwise [mstep]

theorem lsum_at (s : FVec Ideal S256x256 .f32) (m : FVec Ideal S256x1 .f32) (a : Fin 256) :
    rsum (wts s m) (ix2 a 0) = Cert.Soft.lsum (fun b => s (ix2 a b)) (m (ix2 a 0)) := by
  rw [rsum_at]
  exact Finset.sum_congr rfl fun b _ => wts_at s m a b

theorem asum_at (s : FVec Ideal S256x256 .f32) (m : FVec Ideal S256x1 .f32) (v : FVec Ideal S256x1024 .bf16) (a : Fin 256) (d : Fin 128) :
    pv o ho (wts s m) v (ix2 a d) = Cert.Soft.asum (fun b => s (ix2 a b)) (fun b => v (ix2 b ⟨o + d.val, col_lt o ho d⟩)) (m (ix2 a 0)) := by
  rw [pv_at]
  exact Finset.sum_congr rfl fun b _ => by rw [wts_at]

theorem lstep_at (m l : FVec Ideal S256x1 .f32) (s : FVec Ideal S256x256 .f32) (a : Fin 256) :
    lstep m l s (ix2 a 0) = l (ix2 a 0) * Ideal.exp (m (ix2 a 0) - mstep m s (ix2 a 0))
      + Cert.Soft.lsum (fun b => s (ix2 a b)) (mstep m s (ix2 a 0)) := by
  rw [← lsum_at, ← corr_at]
  pointwise [lstep]

theorem astep_at (m : FVec Ideal S256x1 .f32) (acc : FVec Ideal S256x128 .f32) (s : FVec Ideal S256x256 .f32)
    (v : FVec Ideal S256x1024 .bf16) (a : Fin 256) (d : Fin 128) :
    astep o ho m acc s v (ix2 a d) = acc (ix2 a d) * Ideal.exp (m (ix2 a 0) - mstep m s (ix2 a 0))
      + Cert.Soft.asum (fun b => s (ix2 a b)) (fun b => v (ix2 b ⟨o + d.val, col_lt o ho d⟩)) (mstep m s (ix2 a 0)) := by
  rw [← asum_at o ho, ← corr_at]
  pointwise [astep]

/-- One head's result at a row and a feature: the softmax taken over the four blocks in turn. -/
theorem hd_at (q k0 v0 k1 v1 k2 v2 k3 v3 : FVec Ideal S256x1024 .bf16) (a : Fin 256) (d : Fin 128) :
    hd o ho q k0 v0 k1 v1 k2 v2 k3 v3 (ix2 a d)
      = Cert.Soft.onl (fun b => scr o ho q k0 (ix2 a b)) (fun b => scr o ho q k1 (ix2 a b))
          (fun b => scr o ho q k2 (ix2 a b)) (fun b => scr o ho q k3 (ix2 a b))
          (fun b => v0 (ix2 b ⟨o + d.val, col_lt o ho d⟩)) (fun b => v1 (ix2 b ⟨o + d.val, col_lt o ho d⟩))
          (fun b => v2 (ix2 b ⟨o + d.val, col_lt o ho d⟩)) (fun b => v3 (ix2 b ⟨o + d.val, col_lt o ho d⟩)) := by
  have e : hd o ho q k0 v0 k1 v1 k2 v2 k3 v3 (ix2 a d)
      = Ideal.div (a3 o ho q k0 v0 k1 v1 k2 v2 k3 v3 (ix2 a d)) (l3 o ho q k0 k1 k2 k3 (ix2 a 0)) := by pointwise [hd]
  rw [e]
  unfold a3 l3 a2 l2 a1 l1 a0 l0 m2 m1 m0 Cert.Soft.onl
  simp only [astep_at, lstep_at, mstep_at, rmax_at, lsum_at, asum_at]

end head

end Cert.KernelIdeal.Attn
-- ==== Proof.KRows.lean ====
module

public import proofs.«01_k».proof.Proof.KVal
public import proofs.«01_k».proof.Proof.Run

/-! The kernel's stacks of rows, its heads and its output read at an index, at the ideal values. -/

@[expose] public section

noncomputable section

namespace Cert.KernelIdeal.Attn

open Idealize.ShloMosaic Idealize.SL.Sem Cert.KernelIdeal Cert.KernelIdeal.Gen

/-- Row `t` of piece `g` of a stack. -/
def rowIn (g : Fin 4) (t : Fin 64) : Fin 256 := ⟨g.val * 64 + t.val, by omega⟩
/-- Row `t` of block `g` of class `rr` in an operand. -/
def rowOf (rr g : Fin 4) (t : Fin 64) : Fin 1024 := ⟨g.val * 256 + rr.val * 64 + t.val, by omega⟩

theorem rest (t : Fin 64) (n : Fin 1024) (g : Fin 4) (b : Fin S64x1024.rank) (hb : b.cast (rfl : S64x1024.rank = S256x1024.rank) ≠ 0) :
    ((ix2 t n : S64x1024.Idx) b).val = ((ix2 (rowIn g t) n : S256x1024.Idx) (b.cast rfl)).val := by
  match b, hb with
  | 0, hb => exact absurd rfl hb
  | 1, _ => rfl

theorem stack_at (a b c d : FVec Ideal S64x1024 .bf16) (g : Fin 4) (t : Fin 64) (n : Fin 1024) (z : EReal)
    (ha : g = 0 → a (ix2 t n) = z) (hb : g = 1 → b (ix2 t n) = z) (hc : g = 2 → c (ix2 t n) = z) (hd : g = 3 → d (ix2 t n) = z) :
    stack a b c d (ix2 (rowIn g t) n) = z := by
  unfold stack
  match g with
  | 0 => exact Eq.trans (concatenate_apply_piece (0 : Fin S256x1024.rank) _ _ (ix2 (rowIn 0 t) n) 0 (by show 0 < 4; decide) S64x1024 a rfl rfl 0 rfl (ix2 t n) (rest t n 0)
            (by show 0 + t.val = 0 * 64 + t.val; omega)) (ha rfl)
  | 1 => exact Eq.trans (concatenate_apply_piece (0 : Fin S256x1024.rank) _ _ (ix2 (rowIn 1 t) n) 1 (by show 1 < 4; decide) S64x1024 b rfl rfl 64 rfl (ix2 t n) (rest t n 1)
            (by show 64 + t.val = 1 * 64 + t.val; omega)) (hb rfl)
  | 2 => exact Eq.trans (concatenate_apply_piece (0 : Fin S256x1024.rank) _ _ (ix2 (rowIn 2 t) n) 2 (by show 2 < 4; decide) S64x1024 c rfl rfl 128 rfl (ix2 t n) (rest t n 2)
            (by show 128 + t.val = 2 * 64 + t.val; omega)) (hc rfl)
  | 3 => exact Eq.trans (concatenate_apply_piece (0 : Fin S256x1024.rank) _ _ (ix2 (rowIn 3 t) n) 3 (by show 3 < 4; decide) S64x1024 d rfl rfl 192 rfl (ix2 t n) (rest t n 3)
            (by show 192 + t.val = 3 * 64 + t.val; omega)) (hd rfl)

theorem rowsA_at (X : Vec Ideal S1024x1024 .bf16) (o : ℕ) (h : InA o) (r : Fin 64) (n : Fin 1024) (i : Fin 1024) (hi : i.val = o + r.val) :
    rowsA X o h (ix2 r n) = X (ix2 i n) := by
  unfold rowsA
  congr 1
  funext a
  match a with
  | 0 => exact Fin.ext (by show o + 1 * r.val = i.val; omega)
  | 1 => exact Fin.ext (by show 0 + 1 * n.val = n.val; omega)

theorem rowsB_at (Y : Vec Ideal S512x1024 .bf16) (o : ℕ) (h : o ≤ 448) (r : Fin 64) (n : Fin 1024) (i : Fin 512) (hi : i.val = o + r.val) :
    shapeCast S64x1024 (rowsB Y o h) shapeCasts_S1x64x1024_S64x1024 (ix2 r n) = Y (ix2 i n) := by
  have e : shapeCast S64x1024 (rowsB Y o h) shapeCasts_S1x64x1024_S64x1024 (ix2 r n) = rowsB Y o h (ix3 0 r n) := by pointwise []
  rw [e]
  unfold rowsB
  congr 1
  funext a
  match a with
  | 0 => exact Fin.ext (by show o + r.val = i.val; omega)
  | 1 => rfl

theorem cast_at (X : Vec Ideal S64x1024 .bf16) (r : Fin 64) (n : Fin 1024) :
    shapeCast S64x1024 X shapeCasts_S64x1024_S64x1024 (ix2 r n) = X (ix2 r n) := by pointwise []

theorem stkA_at (X : Vec Ideal S1024x1024 .bf16) (rr g : Fin 4) (t : Fin 64) (n : Fin 1024) (hr : rr.val ≤ 3) :
    stkA X rr.val hr (ix2 (rowIn g t) n) = X (ix2 (rowOf rr g t) n) := by
  unfold stkA stackA
  refine stack_at _ _ _ _ g t n _ ?_ ?_ ?_ ?_
  all_goals
    intro hg
    subst hg
    refine (cast_at _ _ _).trans (rowsA_at X _ _ _ _ _ ?_)
    simp only [rowOf, Fin.val_zero, Fin.val_one, Fin.val_two, show (3 : Fin 4).val = 3 from rfl]
    omega

variable (m : (ℓ : Loc nD τ sig) → Buf (Elt Ideal) ℓ) (ρ : Dev nD → PrngReg)

theorem chunk_at (c : Dev nD) (b : Fin 4) (i : Fin 512) (n : Fin 1024) (r : Fin 1024) (hr : r.val = off b + i.val) :
    chunk m ρ c b (ix2 i n) = opV m ρ c b (ix2 r n) := by
  unfold chunk
  congr 1
  funext a
  match a with
  | 0 => exact Fin.ext (by show off b + 1 * i.val = r.val; omega)
  | 1 => exact Fin.ext (by show 0 + 1 * n.val = n.val; omega)

/-- The device a row of block `g` comes from in slot `s`. -/
def dev (s : Fin 4) (g : Fin 4) (c : Dev nD) : Dev nD := org (if g.val < 2 then 0 else 2) s.val c

/-- Class `rr`'s rows of slot `s`, of the keys or of the values. -/
def keyB (c : Dev nD) (rr : Fin 4) (v : Bool) (s : Fin 4) : FVec Ideal S256x1024 .bf16 := match s, v with
  | 0, false => stkA (opV m ρ c 0) rr.val (by omega)
  | 0, true => stkA (opV m ρ c 1) rr.val (by omega)
  | 1, false => stkB (got m ρ c 0 0) (got m ρ c 0 2) rr.val (by omega)
  | 1, true => stkB (got m ρ c 0 1) (got m ρ c 0 3) rr.val (by omega)
  | 2, false => stkB (got m ρ c 1 0) (got m ρ c 1 2) rr.val (by omega)
  | 2, true => stkB (got m ρ c 1 1) (got m ρ c 1 3) rr.val (by omega)
  | 3, false => stkB (got m ρ c 2 0) (got m ρ c 2 2) rr.val (by omega)
  | 3, true => stkB (got m ρ c 2 1) (got m ρ c 2 3) rr.val (by omega)

/-- The staged keys or values. -/
def kv (v : Bool) (c : Dev nD) : Vec Ideal S1024x1024 .bf16 := match v with
  | false => kst m ρ c
  | true => vst m ρ c

theorem stkB_at (Y Z : Vec Ideal S512x1024 .bf16) (X : Fin 4 → Vec Ideal S1024x1024 .bf16) (rr g : Fin 4) (t : Fin 64) (n : Fin 1024) (hr : rr.val ≤ 3)
    (hY : ∀ (i : Fin 512) (n r : Fin 1024), r.val = i.val → ∀ g : Fin 4, g.val < 2 → Y (ix2 i n) = X g (ix2 r n))
    (hZ : ∀ (i : Fin 512) (n r : Fin 1024), r.val = 512 + i.val → ∀ g : Fin 4, ¬ g.val < 2 → Z (ix2 i n) = X g (ix2 r n)) :
    stkB Y Z rr.val hr (ix2 (rowIn g t) n) = X g (ix2 (rowOf rr g t) n) := by
  have hrr := rr.isLt
  have ht := t.isLt
  unfold stkB stackB
  refine stack_at _ _ _ _ g t n _ ?_ ?_ ?_ ?_
  · rintro rfl
    exact (rowsB_at Y _ _ t n ⟨rr.val * 64 + t.val, by omega⟩ rfl).trans (hY _ _ _ (by show 0 * 256 + rr.val * 64 + t.val = rr.val * 64 + t.val; omega) 0 (by decide))
  · rintro rfl
    exact (rowsB_at Y _ _ t n ⟨rr.val * 64 + 256 + t.val, by omega⟩ rfl).trans (hY _ _ _ (by show 1 * 256 + rr.val * 64 + t.val = rr.val * 64 + 256 + t.val; omega) 1 (by decide))
  · rintro rfl
    exact (rowsB_at Z _ _ t n ⟨rr.val * 64 + t.val, by omega⟩ rfl).trans (hZ _ _ _ (by show 2 * 256 + rr.val * 64 + t.val = 512 + (rr.val * 64 + t.val); omega) 2 (by decide))
  · rintro rfl
    exact (rowsB_at Z _ _ t n ⟨rr.val * 64 + 256 + t.val, by omega⟩ rfl).trans (hZ _ _ _ (by show 3 * 256 + rr.val * 64 + t.val = 512 + (rr.val * 64 + 256 + t.val); omega) 3 (by decide))

theorem got_at (c : Dev nD) (rr g : Fin 4) (t : Fin 64) (n : Fin 1024) (v : Bool) (h : Fin 3) (hr : rr.val ≤ 3)
    (Y Z : Vec Ideal S512x1024 .bf16) (hY : Y = chunk m ρ (org 0 (h.val + 1) c) (if v then 1 else 0)) (hZ : Z = chunk m ρ (org 2 (h.val + 1) c) (if v then 3 else 2)) :
    stkB Y Z rr.val hr (ix2 (rowIn g t) n) = kv m ρ v (org (if g.val < 2 then 0 else 2) (h.val + 1) c) (ix2 (rowOf rr g t) n) := by
  subst hY hZ
  refine stkB_at _ _ (fun g => kv m ρ v (org (if g.val < 2 then 0 else 2) (h.val + 1) c)) rr g t n hr ?_ ?_
  · intro i n r e g hg
    rw [if_pos hg]
    cases v
    · exact chunk_at m ρ _ 0 i n r (e.trans (Nat.zero_add _).symm)
    · exact chunk_at m ρ _ 1 i n r (e.trans (Nat.zero_add _).symm)
  · intro i n r e g hg
    rw [if_neg hg]
    cases v
    · exact chunk_at m ρ _ 2 i n r e
    · exact chunk_at m ρ _ 3 i n r e

theorem keyB_at (c : Dev nD) (rr : Fin 4) (v : Bool) (s g : Fin 4) (t : Fin 64) (n : Fin 1024) :
    keyB m ρ c rr v s (ix2 (rowIn g t) n) = kv m ρ v (dev s g c) (ix2 (rowOf rr g t) n) := by
  match s, v with
  | 0, false => exact stkA_at _ rr g t n (by omega)
  | 0, true => exact stkA_at _ rr g t n (by omega)
  | 1, false => exact got_at m ρ c rr g t n false 0 (by omega) _ _ rfl rfl
  | 1, true => exact got_at m ρ c rr g t n true 0 (by omega) _ _ rfl rfl
  | 2, false => exact got_at m ρ c rr g t n false 1 (by omega) _ _ rfl rfl
  | 2, true => exact got_at m ρ c rr g t n true 1 (by omega) _ _ rfl rfl
  | 3, false => exact got_at m ρ c rr g t n false 2 (by omega) _ _ rfl rfl
  | 3, true => exact got_at m ρ c rr g t n true 2 (by omega) _ _ rfl rfl

/-- The scale is the root's inverse. -/
theorem scale_val : Named.named (F := Ideal) κ "scale" (φ := .f32) 0x3DB504F3#32 = (((Real.sqrt 128)⁻¹ : ℝ) : EReal) :=
  IdealRules.named_const.ideal_named_scalar _ _ _ _ rfl

theorem qall_at (x wq : Vec Ideal S1024x1024 .bf16) (r n : Fin 1024) :
    qall x wq (ix2 r n) = (∑ c : Fin 1024, x (ix2 r c) * wq (ix2 c n)) * (((Real.sqrt 128)⁻¹ : ℝ) : EReal) := by
  rw [← scale_val]
  pointwise [qall]

/-- Class `rr`'s queries. -/
def qcl (x wq : Vec Ideal S1024x1024 .bf16) (rr : Fin 4) : FVec Ideal S256x1024 .bf16 := match rr with
  | 0 => q0 x wq | 1 => q1 x wq | 2 => q2 x wq | 3 => q3 x wq

theorem sl_at (q : FVec Ideal S1024x1024 .bf16) (a : ℕ) (ha : S1024x1024.Slices ![a, 0] S64x1024) (t : Fin 64) (n i : Fin 1024) (hi : i.val = a + t.val) :
    extractStridedSlice S64x1024 ![a, 0] q ha (ix2 t n) = q (ix2 i n) := by
  have e : i = ⟨a + t.val, hi ▸ i.isLt⟩ := Fin.ext hi
  rw [e]
  pointwise []

theorem qcl_at (x wq : Vec Ideal S1024x1024 .bf16) (rr g : Fin 4) (t : Fin 64) (n : Fin 1024) :
    qcl x wq rr (ix2 (rowIn g t) n) = (∑ c : Fin 1024, x (ix2 (rowOf rr g t) c) * wq (ix2 c n)) * (((Real.sqrt 128)⁻¹ : ℝ) : EReal) := by
  rw [← qall_at]
  match rr with
  | 0 => refine stack_at _ _ _ _ g t n _ ?_ ?_ ?_ ?_ <;>
          (rintro rfl; exact sl_at (qall x wq) _ _ t n _ rfl)
  | 1 => refine stack_at _ _ _ _ g t n _ ?_ ?_ ?_ ?_ <;>
          (rintro rfl; exact sl_at (qall x wq) _ _ t n _ rfl)
  | 2 => refine stack_at _ _ _ _ g t n _ ?_ ?_ ?_ ?_ <;>
          (rintro rfl; exact sl_at (qall x wq) _ _ t n _ rfl)
  | 3 => refine stack_at _ _ _ _ g t n _ ?_ ?_ ?_ ?_ <;>
          (rintro rfl; exact sl_at (qall x wq) _ _ t n _ rfl)

end Cert.KernelIdeal.Attn
-- ==== Proof.KOut.lean ====
module

public import proofs.«01_k».proof.Proof.KRows

/-! The kernel's heads and its output read at an index, at the ideal values. -/

@[expose] public section

noncomputable section

namespace Cert.KernelIdeal.Attn

open Idealize.ShloMosaic Idealize.SL.Sem Cert.KernelIdeal Cert.KernelIdeal.Gen

/-- Feature `d` of head `h`. -/
def col (h : Fin 8) (d : Fin 128) : Fin 1024 := ⟨h.val * 128 + d.val, by omega⟩

/-- Row `a` of the queries of head `h` against a row of a block of keys. -/
def sc (h : Fin 8) (q k : FVec Ideal S256x1024 .bf16) (a b : Fin 256) : EReal :=
  ∑ d : Fin 128, q (ix2 a (col h d)) * k (ix2 b (col h d))

/-- What the kernel computes for head `h`, row `a`, feature `d` from four blocks. -/
def att (h : Fin 8) (q k0 v0 k1 v1 k2 v2 k3 v3 : FVec Ideal S256x1024 .bf16) (a : Fin 256) (d : Fin 128) : EReal :=
  Cert.Soft.onl (sc h q k0 a) (sc h q k1 a) (sc h q k2 a) (sc h q k3 a)
    (fun b => v0 (ix2 b (col h d))) (fun b => v1 (ix2 b (col h d))) (fun b => v2 (ix2 b (col h d))) (fun b => v3 (ix2 b (col h d)))

theorem hd_att (h : Fin 8) (o : ℕ) (ho : S256x1024.Slices ![0, o] S256x128) (e : o = h.val * 128)
    (q k0 v0 k1 v1 k2 v2 k3 v3 : FVec Ideal S256x1024 .bf16) (a : Fin 256) (d : Fin 128) :
    hd o ho q k0 v0 k1 v1 k2 v2 k3 v3 (ix2 a d) = att h q k0 v0 k1 v1 k2 v2 k3 v3 a d := by
  subst e
  rw [hd_at]
  unfold att
  have hs (k : FVec Ideal S256x1024 .bf16) : (fun b => scr (h.val * 128) ho q k (ix2 a b)) = sc h q k a := funext fun b => scr_at _ ho q k a b
  rw [hs, hs, hs, hs]
  rfl

theorem restC (a : Fin 256) (d : Fin 128) (h : Fin 8) (b : Fin S256x128.rank) (hb : b.cast (rfl : S256x128.rank = S256x1024.rank) ≠ 1) :
    ((ix2 a d : S256x128.Idx) b).val = ((ix2 a (col h d) : S256x1024.Idx) (b.cast rfl)).val := by
  match b, hb with
  | 0, _ => rfl
  | 1, hb => exact absurd rfl hb

/-- The eight heads side by side. -/
def hcat (q k0 v0 k1 v1 k2 v2 k3 v3 : FVec Ideal S256x1024 .bf16) : FVec Ideal S256x1024 .f32 :=
  concatenate S256x1024 1 [
    ⟨S256x128, hd 0 slices_S256x1024_o0_0_S256x128 q k0 v0 k1 v1 k2 v2 k3 v3⟩,
    ⟨S256x128, hd 128 slices_S256x1024_o0_128_S256x128 q k0 v0 k1 v1 k2 v2 k3 v3⟩,
    ⟨S256x128, hd 256 slices_S256x1024_o0_256_S256x128 q k0 v0 k1 v1 k2 v2 k3 v3⟩,
    ⟨S256x128, hd 384 slices_S256x1024_o0_384_S256x128 q k0 v0 k1 v1 k2 v2 k3 v3⟩,
    ⟨S256x128, hd 512 slices_S256x1024_o0_512_S256x128 q k0 v0 k1 v1 k2 v2 k3 v3⟩,
    ⟨S256x128, hd 640 slices_S256x1024_o0_640_S256x128 q k0 v0 k1 v1 k2 v2 k3 v3⟩,
    ⟨S256x128, hd 768 slices_S256x1024_o0_768_S256x128 q k0 v0 k1 v1 k2 v2 k3 v3⟩,
    ⟨S256x128, hd 896 slices_S256x1024_o0_896_S256x128 q k0 v0 k1 v1 k2 v2 k3 v3⟩]
    concatenates_S256x128_S256x128_S256x128_S256x128_S256x128_S256x128_S256x128_S256x128_S256x1024_d1

theorem heads_at (q k0 v0 k1 v1 k2 v2 k3 v3 : FVec Ideal S256x1024 .bf16) (a : Fin 256) (h : Fin 8) (d : Fin 128) :
    heads q k0 v0 k1 v1 k2 v2 k3 v3 (ix2 a (col h d)) = att h q k0 v0 k1 v1 k2 v2 k3 v3 a d := by
  refine Eq.trans (b := hcat q k0 v0 k1 v1 k2 v2 k3 v3 (ix2 a (col h d))) rfl ?_
  unfold hcat
  match h with
  | 0 => exact Eq.trans (concatenate_apply_piece (1 : Fin S256x1024.rank) _ _ (ix2 a (col 0 d)) 0 (by show 0 < 8; decide) S256x128
            (hd 0 slices_S256x1024_o0_0_S256x128 q k0 v0 k1 v1 k2 v2 k3 v3) rfl rfl 0 rfl (ix2 a d) (restC a d 0)
            (by show 0 + d.val = 0 * 128 + d.val; omega)) (hd_att 0 0 _ rfl q k0 v0 k1 v1 k2 v2 k3 v3 a d)
  | 1 => exact Eq.trans (concatenate_apply_piece (1 : Fin S256x1024.rank) _ _ (ix2 a (col 1 d)) 1 (by show 1 < 8; decide) S256x128
            (hd 128 slices_S256x1024_o0_128_S256x128 q k0 v0 k1 v1 k2 v2 k3 v3) rfl rfl 128 rfl (ix2 a d) (restC a d 1)
            (by show 128 + d.val = 1 * 128 + d.val; omega)) (hd_att 1 128 _ rfl q k0 v0 k1 v1 k2 v2 k3 v3 a d)
  | 2 => exact Eq.trans (concatenate_apply_piece (1 : Fin S256x1024.rank) _ _ (ix2 a (col 2 d)) 2 (by show 2 < 8; decide) S256x128
            (hd 256 slices_S256x1024_o0_256_S256x128 q k0 v0 k1 v1 k2 v2 k3 v3) rfl rfl 256 rfl (ix2 a d) (restC a d 2)
            (by show 256 + d.val = 2 * 128 + d.val; omega)) (hd_att 2 256 _ rfl q k0 v0 k1 v1 k2 v2 k3 v3 a d)
  | 3 => exact Eq.trans (concatenate_apply_piece (1 : Fin S256x1024.rank) _ _ (ix2 a (col 3 d)) 3 (by show 3 < 8; decide) S256x128
            (hd 384 slices_S256x1024_o0_384_S256x128 q k0 v0 k1 v1 k2 v2 k3 v3) rfl rfl 384 rfl (ix2 a d) (restC a d 3)
            (by show 384 + d.val = 3 * 128 + d.val; omega)) (hd_att 3 384 _ rfl q k0 v0 k1 v1 k2 v2 k3 v3 a d)
  | 4 => exact Eq.trans (concatenate_apply_piece (1 : Fin S256x1024.rank) _ _ (ix2 a (col 4 d)) 4 (by show 4 < 8; decide) S256x128
            (hd 512 slices_S256x1024_o0_512_S256x128 q k0 v0 k1 v1 k2 v2 k3 v3) rfl rfl 512 rfl (ix2 a d) (restC a d 4)
            (by show 512 + d.val = 4 * 128 + d.val; omega)) (hd_att 4 512 _ rfl q k0 v0 k1 v1 k2 v2 k3 v3 a d)
  | 5 => exact Eq.trans (concatenate_apply_piece (1 : Fin S256x1024.rank) _ _ (ix2 a (col 5 d)) 5 (by show 5 < 8; decide) S256x128
            (hd 640 slices_S256x1024_o0_640_S256x128 q k0 v0 k1 v1 k2 v2 k3 v3) rfl rfl 640 rfl (ix2 a d) (restC a d 5)
            (by show 640 + d.val = 5 * 128 + d.val; omega)) (hd_att 5 640 _ rfl q k0 v0 k1 v1 k2 v2 k3 v3 a d)
  | 6 => exact Eq.trans (concatenate_apply_piece (1 : Fin S256x1024.rank) _ _ (ix2 a (col 6 d)) 6 (by show 6 < 8; decide) S256x128
            (hd 768 slices_S256x1024_o0_768_S256x128 q k0 v0 k1 v1 k2 v2 k3 v3) rfl rfl 768 rfl (ix2 a d) (restC a d 6)
            (by show 768 + d.val = 6 * 128 + d.val; omega)) (hd_att 6 768 _ rfl q k0 v0 k1 v1 k2 v2 k3 v3 a d)
  | 7 => exact Eq.trans (concatenate_apply_piece (1 : Fin S256x1024.rank) _ _ (ix2 a (col 7 d)) 7 (by show 7 < 8; decide) S256x128
            (hd 896 slices_S256x1024_o0_896_S256x128 q k0 v0 k1 v1 k2 v2 k3 v3) rfl rfl 896 rfl (ix2 a d) (restC a d 7)
            (by show 896 + d.val = 7 * 128 + d.val; omega)) (hd_att 7 896 _ rfl q k0 v0 k1 v1 k2 v2 k3 v3 a d)

/-- The four classes' rows put back in place. -/
def cat (r0 r1 r2 r3 : FVec Ideal S256x1024 .bf16) : FVec Ideal S1024x1024 .bf16 :=
  concatenate S1024x1024 0 [
    ⟨S64x1024, pick 0 slices_S256x1024_o0_0_S64x1024 r0⟩, ⟨S64x1024, pick 0 slices_S256x1024_o0_0_S64x1024 r1⟩, ⟨S64x1024, pick 0 slices_S256x1024_o0_0_S64x1024 r2⟩, ⟨S64x1024, pick 0 slices_S256x1024_o0_0_S64x1024 r3⟩,
    ⟨S64x1024, pick 64 slices_S256x1024_o64_0_S64x1024 r0⟩, ⟨S64x1024, pick 64 slices_S256x1024_o64_0_S64x1024 r1⟩, ⟨S64x1024, pick 64 slices_S256x1024_o64_0_S64x1024 r2⟩, ⟨S64x1024, pick 64 slices_S256x1024_o64_0_S64x1024 r3⟩,
    ⟨S64x1024, pick 128 slices_S256x1024_o128_0_S64x1024 r0⟩, ⟨S64x1024, pick 128 slices_S256x1024_o128_0_S64x1024 r1⟩, ⟨S64x1024, pick 128 slices_S256x1024_o128_0_S64x1024 r2⟩, ⟨S64x1024, pick 128 slices_S256x1024_o128_0_S64x1024 r3⟩,
    ⟨S64x1024, pick 192 slices_S256x1024_o192_0_S64x1024 r0⟩, ⟨S64x1024, pick 192 slices_S256x1024_o192_0_S64x1024 r1⟩, ⟨S64x1024, pick 192 slices_S256x1024_o192_0_S64x1024 r2⟩, ⟨S64x1024, pick 192 slices_S256x1024_o192_0_S64x1024 r3⟩]
    concatenates_S64x1024_S64x1024_S64x1024_S64x1024_S64x1024_S64x1024_S64x1024_S64x1024_S64x1024_S64x1024_S64x1024_S64x1024_S64x1024_S64x1024_S64x1024_S64x1024_S1024x1024_d0

theorem restR (t : Fin 64) (n i : Fin 1024) (b : Fin S64x1024.rank) (hb : b.cast (rfl : S64x1024.rank = S1024x1024.rank) ≠ 0) :
    ((ix2 t n : S64x1024.Idx) b).val = ((ix2 i n : S1024x1024.Idx) (b.cast rfl)).val := by
  match b, hb with
  | 0, hb => exact absurd rfl hb
  | 1, _ => rfl

theorem before (k : ℕ) : ((List.replicate k S64x1024).map fun s => if h : s.rank = S1024x1024.rank then s.size ((0 : Fin S1024x1024.rank).cast h.symm) else 0).sum = k * 64 := by
  rw [List.map_replicate, List.sum_replicate]
  rfl

theorem pick_at (r : FVec Ideal S256x1024 .bf16) (g : Fin 4) (o : ℕ) (ho : S256x1024.Slices ![o, 0] S64x1024) (e : o = g.val * 64) (t : Fin 64) (n : Fin 1024) :
    pick o ho r (ix2 t n) = r (ix2 (rowIn g t) n) := by
  subst e
  pointwise [pick, rowIn]

theorem cat_at0 (r : Fin 4 → FVec Ideal S256x1024 .bf16) (rr : Fin 4) (t : Fin 64) (n : Fin 1024) :
    cat (r 0) (r 1) (r 2) (r 3) (ix2 (rowOf rr 0 t) n) = r rr (ix2 (rowIn 0 t) n) := by
  unfold cat
  match rr with
  | 0 => exact Eq.trans (concatenate_apply_piece (0 : Fin S1024x1024.rank) _ _ (ix2 (rowOf 0 0 t) n) 0 (by show 0 < 16; decide) S64x1024
            (pick 0 slices_S256x1024_o0_0_S64x1024 (r 0)) rfl rfl 0 (by exact before 0) (ix2 t n) (restR t n _)
            (by show 0 + t.val = 0 * 256 + 0 * 64 + t.val; omega)) (pick_at (r 0) 0 0 _ rfl t n)
  | 1 => exact Eq.trans (concatenate_apply_piece (0 : Fin S1024x1024.rank) _ _ (ix2 (rowOf 1 0 t) n) 1 (by show 1 < 16; decide) S64x1024
            (pick 0 slices_S256x1024_o0_0_S64x1024 (r 1)) rfl rfl 64 (by exact before 1) (ix2 t n) (restR t n _)
            (by show 64 + t.val = 0 * 256 + 1 * 64 + t.val; omega)) (pick_at (r 1) 0 0 _ rfl t n)
  | 2 => exact Eq.trans (concatenate_apply_piece (0 : Fin S1024x1024.rank) _ _ (ix2 (rowOf 2 0 t) n) 2 (by show 2 < 16; decide) S64x1024
            (pick 0 slices_S256x1024_o0_0_S64x1024 (r 2)) rfl rfl 128 (by exact before 2) (ix2 t n) (restR t n _)
            (by show 128 + t.val = 0 * 256 + 2 * 64 + t.val; omega)) (pick_at (r 2) 0 0 _ rfl t n)
  | 3 => exact Eq.trans (concatenate_apply_piece (0 : Fin S1024x1024.rank) _ _ (ix2 (rowOf 3 0 t) n) 3 (by show 3 < 16; decide) S64x1024
            (pick 0 slices_S256x1024_o0_0_S64x1024 (r 3)) rfl rfl 192 (by exact before 3) (ix2 t n) (restR t n _)
            (by show 192 + t.val = 0 * 256 + 3 * 64 + t.val; omega)) (pick_at (r 3) 0 0 _ rfl t n)

theorem cat_at1 (r : Fin 4 → FVec Ideal S256x1024 .bf16) (rr : Fin 4) (t : Fin 64) (n : Fin 1024) :
    cat (r 0) (r 1) (r 2) (r 3) (ix2 (rowOf rr 1 t) n) = r rr (ix2 (rowIn 1 t) n) := by
  unfold cat
  match rr with
  | 0 => exact Eq.trans (concatenate_apply_piece (0 : Fin S1024x1024.rank) _ _ (ix2 (rowOf 0 1 t) n) 4 (by show 4 < 16; decide) S64x1024
            (pick 64 slices_S256x1024_o64_0_S64x1024 (r 0)) rfl rfl 256 (by exact before 4) (ix2 t n) (restR t n _)
            (by show 256 + t.val = 1 * 256 + 0 * 64 + t.val; omega)) (pick_at (r 0) 1 64 _ rfl t n)
  | 1 => exact Eq.trans (concatenate_apply_piece (0 : Fin S1024x1024.rank) _ _ (ix2 (rowOf 1 1 t) n) 5 (by show 5 < 16; decide) S64x1024
            (pick 64 slices_S256x1024_o64_0_S64x1024 (r 1)) rfl rfl 320 (by exact before 5) (ix2 t n) (restR t n _)
            (by show 320 + t.val = 1 * 256 + 1 * 64 + t.val; omega)) (pick_at (r 1) 1 64 _ rfl t n)
  | 2 => exact Eq.trans (concatenate_apply_piece (0 : Fin S1024x1024.rank) _ _ (ix2 (rowOf 2 1 t) n) 6 (by show 6 < 16; decide) S64x1024
            (pick 64 slices_S256x1024_o64_0_S64x1024 (r 2)) rfl rfl 384 (by exact before 6) (ix2 t n) (restR t n _)
            (by show 384 + t.val = 1 * 256 + 2 * 64 + t.val; omega)) (pick_at (r 2) 1 64 _ rfl t n)
  | 3 => exact Eq.trans (concatenate_apply_piece (0 : Fin S1024x1024.rank) _ _ (ix2 (rowOf 3 1 t) n) 7 (by show 7 < 16; decide) S64x1024
            (pick 64 slices_S256x1024_o64_0_S64x1024 (r 3)) rfl rfl 448 (by exact before 7) (ix2 t n) (restR t n _)
            (by show 448 + t.val = 1 * 256 + 3 * 64 + t.val; omega)) (pick_at (r 3) 1 64 _ rfl t n)

theorem cat_at2 (r : Fin 4 → FVec Ideal S256x1024 .bf16) (rr : Fin 4) (t : Fin 64) (n : Fin 1024) :
    cat (r 0) (r 1) (r 2) (r 3) (ix2 (rowOf rr 2 t) n) = r rr (ix2 (rowIn 2 t) n) := by
  unfold cat
  match rr with
  | 0 => exact Eq.trans (concatenate_apply_piece (0 : Fin S1024x1024.rank) _ _ (ix2 (rowOf 0 2 t) n) 8 (by show 8 < 16; decide) S64x1024
            (pick 128 slices_S256x1024_o128_0_S64x1024 (r 0)) rfl rfl 512 (by exact before 8) (ix2 t n) (restR t n _)
            (by show 512 + t.val = 2 * 256 + 0 * 64 + t.val; omega)) (pick_at (r 0) 2 128 _ rfl t n)
  | 1 => exact Eq.trans (concatenate_apply_piece (0 : Fin S1024x1024.rank) _ _ (ix2 (rowOf 1 2 t) n) 9 (by show 9 < 16; decide) S64x1024
            (pick 128 slices_S256x1024_o128_0_S64x1024 (r 1)) rfl rfl 576 (by exact before 9) (ix2 t n) (restR t n _)
            (by show 576 + t.val = 2 * 256 + 1 * 64 + t.val; omega)) (pick_at (r 1) 2 128 _ rfl t n)
  | 2 => exact Eq.trans (concatenate_apply_piece (0 : Fin S1024x1024.rank) _ _ (ix2 (rowOf 2 2 t) n) 10 (by show 10 < 16; decide) S64x1024
            (pick 128 slices_S256x1024_o128_0_S64x1024 (r 2)) rfl rfl 640 (by exact before 10) (ix2 t n) (restR t n _)
            (by show 640 + t.val = 2 * 256 + 2 * 64 + t.val; omega)) (pick_at (r 2) 2 128 _ rfl t n)
  | 3 => exact Eq.trans (concatenate_apply_piece (0 : Fin S1024x1024.rank) _ _ (ix2 (rowOf 3 2 t) n) 11 (by show 11 < 16; decide) S64x1024
            (pick 128 slices_S256x1024_o128_0_S64x1024 (r 3)) rfl rfl 704 (by exact before 11) (ix2 t n) (restR t n _)
            (by show 704 + t.val = 2 * 256 + 3 * 64 + t.val; omega)) (pick_at (r 3) 2 128 _ rfl t n)

theorem cat_at3 (r : Fin 4 → FVec Ideal S256x1024 .bf16) (rr : Fin 4) (t : Fin 64) (n : Fin 1024) :
    cat (r 0) (r 1) (r 2) (r 3) (ix2 (rowOf rr 3 t) n) = r rr (ix2 (rowIn 3 t) n) := by
  unfold cat
  match rr with
  | 0 => exact Eq.trans (concatenate_apply_piece (0 : Fin S1024x1024.rank) _ _ (ix2 (rowOf 0 3 t) n) 12 (by show 12 < 16; decide) S64x1024
            (pick 192 slices_S256x1024_o192_0_S64x1024 (r 0)) rfl rfl 768 (by exact before 12) (ix2 t n) (restR t n _)
            (by show 768 + t.val = 3 * 256 + 0 * 64 + t.val; omega)) (pick_at (r 0) 3 192 _ rfl t n)
  | 1 => exact Eq.trans (concatenate_apply_piece (0 : Fin S1024x1024.rank) _ _ (ix2 (rowOf 1 3 t) n) 13 (by show 13 < 16; decide) S64x1024
            (pick 192 slices_S256x1024_o192_0_S64x1024 (r 1)) rfl rfl 832 (by exact before 13) (ix2 t n) (restR t n _)
            (by show 832 + t.val = 3 * 256 + 1 * 64 + t.val; omega)) (pick_at (r 1) 3 192 _ rfl t n)
  | 2 => exact Eq.trans (concatenate_apply_piece (0 : Fin S1024x1024.rank) _ _ (ix2 (rowOf 2 3 t) n) 14 (by show 14 < 16; decide) S64x1024
            (pick 192 slices_S256x1024_o192_0_S64x1024 (r 2)) rfl rfl 896 (by exact before 14) (ix2 t n) (restR t n _)
            (by show 896 + t.val = 3 * 256 + 2 * 64 + t.val; omega)) (pick_at (r 2) 3 192 _ rfl t n)
  | 3 => exact Eq.trans (concatenate_apply_piece (0 : Fin S1024x1024.rank) _ _ (ix2 (rowOf 3 3 t) n) 15 (by show 15 < 16; decide) S64x1024
            (pick 192 slices_S256x1024_o192_0_S64x1024 (r 3)) rfl rfl 960 (by exact before 15) (ix2 t n) (restR t n _)
            (by show 960 + t.val = 3 * 256 + 3 * 64 + t.val; omega)) (pick_at (r 3) 3 192 _ rfl t n)

theorem cat_at (r : Fin 4 → FVec Ideal S256x1024 .bf16) (rr g : Fin 4) (t : Fin 64) (n : Fin 1024) :
    cat (r 0) (r 1) (r 2) (r 3) (ix2 (rowOf rr g t) n) = r rr (ix2 (rowIn g t) n) := by
  match g with
  | 0 => exact cat_at0 r rr t n
  | 1 => exact cat_at1 r rr t n
  | 2 => exact cat_at2 r rr t n
  | 3 => exact cat_at3 r rr t n

theorem proj_at (r : Fin 4 → FVec Ideal S256x1024 .bf16) (wo : Vec Ideal S1024x1024 .bf16) (rr g : Fin 4) (t : Fin 64) (n : Fin 1024) :
    proj (r 0) (r 1) (r 2) (r 3) wo (ix2 (rowOf rr g t) n) = ∑ e : Fin 1024, r rr (ix2 (rowIn g t) e) * wo (ix2 e n) := by
  have key (X wo : FVec Ideal S1024x1024 .bf16) (i : Fin 1024) : matmul (φ₁ := .bf16) (φ₂ := .bf16) dot_S1024x1024_S1024x1024_S1024x1024_1_0_0_1_n_n none X
      (shapeCast S1024x1024 wo shapeCasts_S1024x1024_S1024x1024) (constant S1024x1024 .f32 0x00000000#32 : FVec Ideal S1024x1024 .f32) (ix2 i n)
      = ∑ e : Fin 1024, X (ix2 i e) * wo (ix2 e n) := by pointwise []
  refine (key (cat (r 0) (r 1) (r 2) (r 3)) wo (rowOf rr g t)).trans ?_
  exact Finset.sum_congr rfl fun e _ => by rw [cat_at]

variable (m : (ℓ : Loc nD τ sig) → Buf (Elt Ideal) ℓ) (ρ : Dev nD → PrngReg)

/-- The kernel's result at a row, as the projection of its heads. -/
theorem outV_at (c : Dev nD) (rr g : Fin 4) (t : Fin 64) (n : Fin 1024) :
    outV m ρ c (ix2 (rowOf rr g t) n)
      = ∑ e : Fin 1024, headsAt m ρ c (qcl (xst m ρ c) (wqst m ρ c) rr) rr.val (by omega) (ix2 (rowIn g t) e) * wost m ρ c (ix2 e n) := by
  exact proj_at (fun rr => headsAt m ρ c (qcl (xst m ρ c) (wqst m ρ c) rr) rr.val (by omega)) (wost m ρ c) rr g t n

theorem headsAt_at (c : Dev nD) (q : FVec Ideal S256x1024 .bf16) (rr : Fin 4) (a : Fin 256) (h : Fin 8) (d : Fin 128) (hr : rr.val ≤ 3) :
    headsAt m ρ c q rr.val hr (ix2 a (col h d))
      = Cert.Soft.onl (sc h q (keyB m ρ c rr false 0) a) (sc h q (keyB m ρ c rr false 1) a) (sc h q (keyB m ρ c rr false 2) a) (sc h q (keyB m ρ c rr false 3) a)
          (fun b => keyB m ρ c rr true 0 (ix2 b (col h d))) (fun b => keyB m ρ c rr true 1 (ix2 b (col h d)))
          (fun b => keyB m ρ c rr true 2 (ix2 b (col h d))) (fun b => keyB m ρ c rr true 3 (ix2 b (col h d))) := by
  unfold headsAt
  rw [heads_at]
  rfl

end Cert.KernelIdeal.Attn
-- ==== Proof.RefTerm.lean ====
module

public import proofs.«01_k».proof.Proof.Gen.ReferenceIdeal.Run

/-! The reference's result, one definition per step: the mask, the scores, their row maxima, the
weights, their row sums, the probabilities, the contexts and the projected output. -/

@[expose] public section

noncomputable section

namespace Cert.ReferenceIdeal.Attn

open Idealize.ShloMosaic Idealize.SL.Sem Cert.ReferenceIdeal Cert.ReferenceIdeal.Gen

variable {F : FTy → Type} [FloatOps F]

/-- Each row's block of 64: its number divided by 64, rounded down. -/
def fdiv : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The blocks as one row. -/
def kb : IVec S1x4096 32 := broadcastInDim S1x4096 ![1] bcast_S4096_S1x4096_1 fdiv
/-- The blocks as one column. -/
def qb : IVec S4096x1 32 := broadcastInDim S4096x1 ![0] bcast_S4096_S4096x1_0 fdiv
/-- The divisor of the remainders. -/
def four : IVec S_ 32 := select (cmpi .eq (id (constantI S_ 32 4#32)) (constantI S_ 32 0#32)) (constantI S_ 32 1#32) (id (constantI S_ 32 4#32))
/-- Each column's block's remainder by four. -/
def krem : IVec S1x4096 32 := select (andi (cmpi .ne (cmpi .slt (Host.remsi kb (broadcastInDim S1x4096 ![] bcast_S_S1x4096 four)) (broadcastInDim S1x4096 ![] bcast_S_S1x4096 (constantI S_ 32 0#32))) (broadcastInDim S1x4096 ![] bcast_S_S1x4096 (cmpi .slt four (constantI S_ 32 0#32)))) (cmpi .ne (Host.remsi kb (broadcastInDim S1x4096 ![] bcast_S_S1x4096 four)) (broadcastInDim S1x4096 ![] bcast_S_S1x4096 (constantI S_ 32 0#32)))) (addi (Host.remsi kb (broadcastInDim S1x4096 ![] bcast_S_S1x4096 four)) (broadcastInDim S1x4096 ![] bcast_S_S1x4096 four)) (Host.remsi kb (broadcastInDim S1x4096 ![] bcast_S_S1x4096 four))
/-- Each row's block's remainder by four. -/
def qrem : IVec S4096x1 32 := select (andi (cmpi .ne (cmpi .slt (Host.remsi qb (broadcastInDim S4096x1 ![] bcast_S_S4096x1 four)) (broadcastInDim S4096x1 ![] bcast_S_S4096x1 (constantI S_ 32 0#32))) (broadcastInDim S4096x1 ![] bcast_S_S4096x1 (cmpi .slt four (constantI S_ 32 0#32)))) (cmpi .ne (Host.remsi qb (broadcastInDim S4096x1 ![] bcast_S_S4096x1 four)) (broadcastInDim S4096x1 ![] bcast_S_S4096x1 (constantI S_ 32 0#32)))) (addi (Host.remsi qb (broadcastInDim S4096x1 ![] bcast_S_S4096x1 four)) (broadcastInDim S4096x1 ![] bcast_S_S4096x1 four)) (Host.remsi qb (broadcastInDim S4096x1 ![] bcast_S_S4096x1 four))
/-- Which column a row attends to. -/
def mask : IVec S4096x4096 1 := ori (cmpi .eq (broadcastInDim S4096x4096 ![0, 1] bcast_S4096x1_S4096x4096_0_1 qb) (broadcastInDim S4096x4096 ![0, 1] bcast_S1x4096_S4096x4096_0_1 kb)) (cmpi .eq (broadcastInDim S4096x4096 ![0, 1] bcast_S1x4096_S4096x4096_0_1 krem) (broadcastInDim S4096x4096 ![0, 1] bcast_S4096x1_S4096x4096_0_1 qrem))
/-- The queries by head. -/
def qry (x : FVec F S4096x1024 .bf16) (wq : FVec F S1024x1024 .bf16) : FVec F S4096x8x128 .f32 := shapeCast S4096x8x128 (Host.dotGeneral dot_S4096x1024_S1024x1024_S4096x1024_1_0_0_1_n_n none (extf .f32 x bitsLt_bf16_f32) (extf .f32 wq bitsLt_bf16_f32)) shapeCasts_S4096x1024_S4096x8x128
/-- The scaled scores. -/
def score (x : FVec F S4096x1024 .bf16) (wq : FVec F S1024x1024 .bf16) (k : FVec F S4096x1024 .bf16) : FVec F S8x4096x4096 .f32 := Host.divf (Host.dotGeneral dot_S4096x8x128_S4096x8x128_S8x4096x4096_2_2_0_0_1_1 none (qry x wq) (shapeCast S4096x8x128 (extf .f32 k bitsLt_bf16_f32) shapeCasts_S4096x1024_S4096x8x128)) (broadcastInDim S8x4096x4096 ![] bcast_S_S8x4096x4096 (Host.sqrt (constant S_ .f32 0x43000000#32)))
/-- The scores, minus infinity off the mask. -/
def masked (x : FVec F S4096x1024 .bf16) (wq : FVec F S1024x1024 .bf16) (k : FVec F S4096x1024 .bf16) : FVec F S8x4096x4096 .f32 := select (broadcastInDim S8x4096x4096 ![0, 1, 2] bcast_S1x4096x4096_S8x4096x4096_0_1_2 (broadcastInDim S1x4096x4096 ![1, 2] bcast_S4096x4096_S1x4096x4096_1_2 mask)) (score x wq k) (broadcastInDim S8x4096x4096 ![] bcast_S_S8x4096x4096 (id (constant S_ .f32 0xFF800000#32)))
/-- Each row's greatest score. -/
def rowMax (x : FVec F S4096x1024 .bf16) (wq : FVec F S1024x1024 .bf16) (k : FVec F S4096x1024 .bf16) : FVec F S8x4096 .f32 := Host.reduce FloatOps.maximumf (masked x wq k) (constant S_ .f32 0xFF800000#32) reducesTo_S8x4096x4096_S8x4096_d2 h_S_
/-- The weights. -/
def wgt (x : FVec F S4096x1024 .bf16) (wq : FVec F S1024x1024 .bf16) (k : FVec F S4096x1024 .bf16) : FVec F S8x4096x4096 .f32 := Host.exp (subf (masked x wq k) (broadcastInDim S8x4096x4096 ![0, 1, 2] bcast_S8x4096x1_S8x4096x4096_0_1_2 (broadcastInDim S8x4096x1 ![0, 1] bcast_S8x4096_S8x4096x1_0_1 (rowMax x wq k))))
/-- Whether a row attends to any column. -/
def keep : IVec S4096 1 := Host.reduce IntOp.ori mask (constantI S_ 1 0#1) reducesTo_S4096x4096_S4096_d1 h_S_
/-- The same as a column under every head. -/
def keepCol : IVec S1x4096x1 1 := broadcastInDim S1x4096x1 ![1] bcast_S4096_S1x4096x1_1 keep
/-- Each row's sum of weights. -/
def rowSum (x : FVec F S4096x1024 .bf16) (wq : FVec F S1024x1024 .bf16) (k : FVec F S4096x1024 .bf16) : FVec F S8x4096 .f32 := Host.reduceAdd (wgt x wq k) (constant S_ .f32 0x00000000#32) reducesTo_S8x4096x4096_S8x4096_d2 h_S_
/-- The divisors. -/
def wSum (x : FVec F S4096x1024 .bf16) (wq : FVec F S1024x1024 .bf16) (k : FVec F S4096x1024 .bf16) : FVec F S8x4096x1 .f32 := select (broadcastInDim S8x4096x1 ![0, 1, 2] bcast_S1x4096x1_S8x4096x1_0_1_2 keepCol) (broadcastInDim S8x4096x1 ![0, 1] bcast_S8x4096_S8x4096x1_0_1 (rowSum x wq k)) (broadcastInDim S8x4096x1 ![] bcast_S_S8x4096x1 (id (constant S_ .f32 0x3F800000#32)))
/-- The probabilities. -/
def prob (x : FVec F S4096x1024 .bf16) (wq : FVec F S1024x1024 .bf16) (k : FVec F S4096x1024 .bf16) : FVec F S8x4096x4096 .f32 := select (broadcastInDim S8x4096x4096 ![0, 1, 2] bcast_S1x4096x1_S8x4096x4096_0_1_2 keepCol) (Host.divf (wgt x wq k) (broadcastInDim S8x4096x4096 ![0, 1, 2] bcast_S8x4096x1_S8x4096x4096_0_1_2 (wSum x wq k))) (broadcastInDim S8x4096x4096 ![] bcast_S_S8x4096x4096 (id (constant S_ .f32 0x00000000#32)))
/-- The contexts, by head, feature and row. -/
def ctx (x : FVec F S4096x1024 .bf16) (wq : FVec F S1024x1024 .bf16) (k v : FVec F S4096x1024 .bf16) : FVec F S8x128x4096 .f32 := Host.dotGeneral dot_S4096x8x128_S8x4096x4096_S8x128x4096_0_2_2_1_1_0 none (shapeCast S4096x8x128 (extf .f32 v bitsLt_bf16_f32) shapeCasts_S4096x1024_S4096x8x128) (prob x wq k)
/-- The output. -/
def out (x : FVec F S4096x1024 .bf16) (wq : FVec F S1024x1024 .bf16) (k v : FVec F S4096x1024 .bf16) (wo : FVec F S1024x1024 .bf16) : FVec F S4096x1024 .f32 := Host.dotGeneral dot_S4096x1024_S1024x1024_S4096x1024_1_0_0_1_n_n none (shapeCast S4096x1024 (transpose S4096x8x128 [2, 0, 1] (ctx x wq k v) transposes_S8x128x4096_S4096x8x128_2_0_1) shapeCasts_S4096x8x128_S4096x1024) (extf .f32 wo bitsLt_bf16_f32)

set_option maxRecDepth 65536 in
/-- The run's result is that output of the arguments. -/
theorem res_eq (m : (ℓ : Loc nD τ sig) → Buf (Elt F) ℓ) (c : Dev nD) :
    Value.res_main_v47 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Attn
-- ==== Proof.RefVal.lean ====
module

public import proofs.«01_k».proof.Proof.RefTerm
public import proofs.«01_k».proof.Proof.Soft

/-! The reference's steps read at an index, at the ideal values. -/

@[expose] public section

noncomputable section

namespace Cert.ReferenceIdeal.Attn

open Idealize.ShloMosaic Idealize.SL.Sem Cert.ReferenceIdeal Cert.ReferenceIdeal.Gen

variable (x : FVec Ideal S4096x1024 .bf16) (wq : FVec Ideal S1024x1024 .bf16) (k v : FVec Ideal S4096x1024 .bf16) (wo : FVec Ideal S1024x1024 .bf16)
theorem select1 {α : Type} {c : BitVec 1} (h : c = 1#1) (a b : α) : Scalar.select c a b = a := by subst h; rfl
theorem select0 {α : Type} {c : BitVec 1} (h : c = 0#1) (a b : α) : Scalar.select c a b = b := by subst h; rfl

/-- Small numbers' signed quotient on words. -/
theorem divsi_nat (n c : ℕ) (hn : n < 2147483648) (hc : 0 < c) (hc' : c < 2147483648) :
    IntOp.divsi .host (BitVec.ofNat 32 n) (BitVec.ofNat 32 c) = BitVec.ofNat 32 (n / c) := by
  have h1 : (BitVec.ofNat 32 n).msb = false := by rw [BitVec.msb_eq_false_iff_two_mul_lt]; simp; omega
  have h2 : (BitVec.ofNat 32 c).msb = false := by rw [BitVec.msb_eq_false_iff_two_mul_lt]; simp; omega
  have h3 : n / c ≤ n := Nat.div_le_self n c
  have h4 : ¬ IntOp.SDivCorner (BitVec.ofNat 32 n) (BitVec.ofNat 32 c) := by
    rintro (h | ⟨h, -⟩)
    · have := congrArg BitVec.toNat h; simp at this; omega
    · have := congrArg BitVec.msb h; rw [h1] at this; revert this; decide
  unfold IntOp.divsi
  rw [if_neg h4]
  unfold BitVec.sdiv
  rw [h1, h2]
  apply BitVec.eq_of_toNat_eq
  simp
  rw [Nat.mod_eq_of_lt (by omega), Nat.mod_eq_of_lt (by omega), Nat.mod_eq_of_lt (by omega)]

/-- Small numbers' signed remainder on words. -/
theorem remsi_nat (n c : ℕ) (hn : n < 2147483648) (hc : 0 < c) (hc' : c < 2147483648) :
    IntOp.remsi .host (BitVec.ofNat 32 n) (BitVec.ofNat 32 c) = BitVec.ofNat 32 (n % c) := by
  have h1 : (BitVec.ofNat 32 n).msb = false := by rw [BitVec.msb_eq_false_iff_two_mul_lt]; simp; omega
  have h2 : (BitVec.ofNat 32 c).msb = false := by rw [BitVec.msb_eq_false_iff_two_mul_lt]; simp; omega
  have h3 : n % c ≤ n := Nat.mod_le n c
  have h4 : ¬ IntOp.SDivCorner (BitVec.ofNat 32 n) (BitVec.ofNat 32 c) := by
    rintro (h | ⟨h, -⟩)
    · have := congrArg BitVec.toNat h; simp at this; omega
    · have := congrArg BitVec.msb h; rw [h1] at this; revert this; decide
  unfold IntOp.remsi
  rw [if_neg h4]
  unfold BitVec.srem
  rw [h1, h2]
  apply BitVec.eq_of_toNat_eq
  have e1 : n % 2 ^ 32 = n := Nat.mod_eq_of_lt (by omega)
  have e2 : c % 2 ^ 32 = c := Nat.mod_eq_of_lt (by omega)
  have e3 : n % c % 2 ^ 32 = n % c := Nat.mod_eq_of_lt (by omega)
  simp only [BitVec.umod_eq, BitVec.toNat_umod, BitVec.toNat_ofNat, e1, e2, e3]

theorem fdiv_at (i : Fin 4096) : fdiv (ix1 i) = BitVec.ofNat 32 (i.val / 64) := by
  have hi := i.isLt
  have hm : (BitVec.ofNat 32 i.val).msb = false := by rw [BitVec.msb_eq_false_iff_two_mul_lt]; simp; omega
  pointwise [fdiv]
  show Scalar.select
      (IntOp.andi
        (IntOp.cmpi CmpIPredicate.ne
          (if BitVec.ofNat 32 ↑i = 0 then 0 else if (BitVec.ofNat 32 ↑i).msb = true then -1 else 1) 1#32)
        (IntOp.cmpi CmpIPredicate.ne (IntOp.remsi ArithUnit.host (BitVec.ofNat 32 ↑i) (BitVec.ofNat 32 64))
          0#32))
      (IntOp.subi (IntOp.divsi ArithUnit.host (BitVec.ofNat 32 ↑i) (BitVec.ofNat 32 64)) 1#32)
      (IntOp.divsi ArithUnit.host (BitVec.ofNat 32 ↑i) (BitVec.ofNat 32 64)) = _
  rw [divsi_nat _ _ (by omega) (by omega) (by omega), remsi_nat _ _ (by omega) (by omega) (by omega), hm]
  refine (select0 ?_ _ _)
  by_cases h0 : i.val = 0
  · rw [h0]; decide
  · have hne : ¬ (BitVec.ofNat 32 i.val = 0) := fun h => by
      have := congrArg BitVec.toNat h; simp at this; omega
    rw [if_neg hne, if_neg (by decide)]
    show (BitVec.ofBool false) &&& _ = _
    simp

theorem slt_small (b : ℕ) : IntOp.cmpi .slt (BitVec.ofNat 32 (b % 4)) 0#32 = 0#1 := by
  have h4 : b % 4 < 4 := Nat.mod_lt _ (by omega)
  generalize b % 4 = a at h4
  obtain rfl | rfl | rfl | rfl : a = 0 ∨ a = 1 ∨ a = 2 ∨ a = 3 := by omega
  all_goals decide

theorem krem_at (j : Fin 4096) : krem (ix2 0 j) = BitVec.ofNat 32 (j.val / 64 % 4) := by
  have hi := j.isLt
  pointwise [krem, kb, four]
  rw [fdiv_at]
  show Scalar.select (IntOp.andi (IntOp.cmpi .ne (IntOp.cmpi .slt (IntOp.remsi .host (BitVec.ofNat 32 (j.val / 64)) (BitVec.ofNat 32 4)) 0#32) 0#1)
     _) _ (IntOp.remsi .host (BitVec.ofNat 32 (j.val / 64)) (BitVec.ofNat 32 4)) = _
  rw [remsi_nat _ _ (by omega) (by omega) (by omega)]
  refine select0 ?_ _ _
  rw [slt_small]
  show (BitVec.ofBool false) &&& _ = _
  simp

theorem qrem_at (j : Fin 4096) : qrem (ix2 j 0) = BitVec.ofNat 32 (j.val / 64 % 4) := by
  have hi := j.isLt
  pointwise [qrem, qb, four]
  rw [fdiv_at]
  show Scalar.select (IntOp.andi (IntOp.cmpi .ne (IntOp.cmpi .slt (IntOp.remsi .host (BitVec.ofNat 32 (j.val / 64)) (BitVec.ofNat 32 4)) 0#32) 0#1)
     _) _ (IntOp.remsi .host (BitVec.ofNat 32 (j.val / 64)) (BitVec.ofNat 32 4)) = _
  rw [remsi_nat _ _ (by omega) (by omega) (by omega)]
  refine select0 ?_ _ _
  rw [slt_small]
  show (BitVec.ofBool false) &&& _ = _
  simp

/-- Equality of small words, as a bit. -/
theorem eq_nat (a b : ℕ) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

/-- A row attends to the columns whose block has its own block's remainder by four. -/
theorem mask_at (i j : Fin 4096) : mask (ix2 i j) = BitVec.ofBool (decide (j.val / 64 % 4 = i.val / 64 % 4)) := by
  have hi := i.isLt
  have hj := j.isLt
  have h : mask (ix2 i j) = IntOp.ori (IntOp.cmpi .eq (fdiv (ix1 i)) (fdiv (ix1 j)))
      (IntOp.cmpi .eq (krem (ix2 0 j)) (qrem (ix2 i 0))) := by pointwise [mask, qb, kb]
  rw [h, fdiv_at, fdiv_at, krem_at, qrem_at, eq_nat _ _ (by omega) (by omega), eq_nat _ _ (by omega) (by omega)]
  by_cases h1 : i.val / 64 = j.val / 64
  · rw [decide_eq_true h1, decide_eq_true (by rw [h1])]; decide
  · rw [decide_eq_false h1]
    generalize decide (j.val / 64 % 4 = i.val / 64 % 4) = b
    revert b; decide

theorem keep_at (i : Fin 4096) : keep (ix1 i) = 1#1 := by
  have h : keep (ix1 i) = Finset.univ.fold IntOp.ori 0#1 (fun j => mask (ix2 i j)) := by pointwise [keep]
  rw [h, ← Finset.insert_erase (Finset.mem_univ i), Finset.fold_insert (Finset.notMem_erase _ _), mask_at, decide_eq_true rfl]
  generalize Finset.fold IntOp.ori 0#1 (fun j => mask (ix2 i j)) (Finset.univ.erase i) = b
  revert b; decide

theorem rowSum_at (h : Fin 8) (i : Fin 4096) : rowSum x wq k (ix2 h i) = ∑ j : Fin 4096, wgt x wq k (ix3 h i j) := by
  pointwise [rowSum]

theorem wSum_at (h : Fin 8) (i : Fin 4096) : wSum x wq k (ix3 h i 0) = rowSum x wq k (ix2 h i) := by
  pointwise [wSum, keepCol]
  exact select1 (keep_at i) _ _

theorem keepCol_at (h : Fin 8) (i j : Fin 4096) :
    broadcastInDim S8x4096x4096 ![0, 1, 2] bcast_S1x4096x1_S8x4096x4096_0_1_2 keepCol (ix3 h i j) = keep (ix1 i) := by
  pointwise [keepCol]

theorem wSumCol_at (h : Fin 8) (i j : Fin 4096) :
    broadcastInDim S8x4096x4096 ![0, 1, 2] bcast_S8x4096x1_S8x4096x4096_0_1_2 (wSum x wq k) (ix3 h i j) = wSum x wq k (ix3 h i 0) := by
  pointwise

theorem prob_at (h : Fin 8) (i j : Fin 4096) :
    prob x wq k (ix3 h i j) = Ideal.div (wgt x wq k (ix3 h i j)) (∑ j : Fin 4096, wgt x wq k (ix3 h i j)) := by
  unfold prob
  rw [ValueIdx.select_apply, select1 ((keepCol_at h i j).trans (keep_at i)), ValueIdx.hostDivf_apply, wSumCol_at, wSum_at, rowSum_at]

theorem masked_at (h : Fin 8) (i j : Fin 4096) :
    masked x wq k (ix3 h i j) = if j.val / 64 % 4 = i.val / 64 % 4 then score x wq k (ix3 h i j) else ⊥ := by
  have e : masked x wq k (ix3 h i j) = Scalar.select (mask (ix2 i j)) (score x wq k (ix3 h i j)) (Ideal.ofBits .f32 0xFF800000#32) := by
    pointwise [masked]
    rfl
  have hb : Ideal.ofBits .f32 0xFF800000#32 = ⊥ := by simp [Ideal.ofBits, Ideal.ieee]
  rw [e, hb, mask_at]
  by_cases hm : j.val / 64 % 4 = i.val / 64 % 4
  · rw [if_pos hm, decide_eq_true hm]; rfl
  · rw [if_neg hm, decide_eq_false hm]; rfl

theorem rowMax_at (h : Fin 8) (i : Fin 4096) :
    rowMax x wq k (ix2 h i) = Cert.Soft.top fun j => masked x wq k (ix3 h i j) := by
  have hb : Ideal.ofBits .f32 0xFF800000#32 = ⊥ := by simp [Ideal.ofBits, Ideal.ieee]
  unfold Cert.Soft.top
  rw [← hb]
  pointwise [rowMax]

theorem wgt_at (h : Fin 8) (i j : Fin 4096) :
    wgt x wq k (ix3 h i j) = Cert.Soft.wt (masked x wq k (ix3 h i j)) (Cert.Soft.top fun j => masked x wq k (ix3 h i j)) := by
  rw [← rowMax_at]
  pointwise [wgt]
  rfl

/-- One entry of the queries, before the scale. -/
def qv (i : Fin 4096) (e : Fin 1024) : EReal := ∑ c : Fin 1024, x (ix2 i c) * wq (ix2 c e)

/-- The column of head `h`, feature `d`. -/
def col (h : Fin 8) (d : Fin 128) : Fin 1024 := ⟨h.val * 128 + d.val, by omega⟩

/-- The features of a head, as the reference's literal. -/
theorem lit_128 : Ideal.ofBits .f32 0x43000000#32 = ((128 : ℝ) : EReal) := by
  simp [Ideal.ofBits, Ideal.ieee, -EReal.coe_mul]; norm_num

theorem score_at (h : Fin 8) (i j : Fin 4096) : score x wq k (ix3 h i j)
    = (∑ d : Fin 128, qv x wq i (col h d) * k (ix2 j (col h d))) * (((Real.sqrt 128)⁻¹ : ℝ) : EReal) := by
  have e : Host.sqrt (constant S_ .f32 0x43000000#32 : FVec Ideal S_ .f32) = fun _ => ((Real.sqrt 128 : ℝ) : EReal) := by
    funext _
    simp only [Host.sqrt, constant, Ideal.hostUnary_sqrt_def, Ideal.ofBits_def, lit_128, Ideal.sqrt_coe,
      show ¬(128 : ℝ) < 0 from by norm_num, ↓reduceIte]
  unfold score
  rw [e, ← one_div, ← Ideal.div_coe (show Real.sqrt 128 ≠ 0 from (Real.sqrt_pos.mpr (by norm_num)).ne')]
  pointwise [qry]
  rfl

theorem ctx_at (h : Fin 8) (d : Fin 128) (i : Fin 4096) : ctx x wq k v (ix3 h d i)
    = ∑ j : Fin 4096, v (ix2 j (col h d)) * prob x wq k (ix3 h i j) := by
  pointwise [ctx]
  rfl

theorem out_at (i : Fin 4096) (n : Fin 1024) : out x wq k v wo (ix2 i n)
    = ∑ e : Fin 1024, ctx x wq k v (ix3 ⟨e.val / 128, by omega⟩ ⟨e.val % 128, by omega⟩ i) * wo (ix2 e n) := by
  pointwise [out]

/-- The columns a row attends to listed by `φ`, the context of a row with real scores is the softmax over that list. -/
theorem ctx_list {I : Type*} [Fintype I] [Nonempty I] (h : Fin 8) (d : Fin 128) (i : Fin 4096) (φ : I → Fin 4096)
    (hφ : Function.Injective φ) (hB : ∀ j : Fin 4096, j.val / 64 % 4 = i.val / 64 % 4 ↔ ∃ p, φ p = j)
    (y : Fin 4096 → ℝ) (hy : ∀ j, score x wq k (ix3 h i j) = y j) :
    ctx x wq k v (ix3 h d i)
      = ∑ p, v (ix2 (φ p) (col h d)) * Ideal.div (Cert.Soft.wt (y (φ p)) (Cert.Soft.top fun p => (y (φ p) : EReal)))
          (Cert.Soft.lsum (fun p => (y (φ p) : EReal)) (Cert.Soft.top fun p => (y (φ p) : EReal))) := by
  rw [ctx_at]
  simp only [prob_at, wgt_at]
  exact Cert.Soft.masked_eq φ hφ (fun j => j.val / 64 % 4 = i.val / 64 % 4) hB y (fun j => v (ix2 j (col h d))) _ _
    (fun j => masked x wq k (ix3 h i j)) (fun j => by rw [masked_at, hy]) rfl rfl

end Cert.ReferenceIdeal.Attn
-- ==== Proof.Join.lean ====
module

public import proofs.«01_k».proof.Proof.KOut
public import proofs.«01_k».proof.Proof.RefVal

/-! The two programs' values compared: a row of the kernel's result on device `c` is the row of the
reference's result at that row of block `c`. -/

@[expose] public section

noncomputable section

namespace Cert.Join

open Idealize.ShloMosaic Idealize.SL.Sem Cert.KernelIdeal Cert.KernelIdeal.Gen Cert.KernelIdeal.Attn

/-- Row `r` of block `c` of a whole array. -/
def gl (c : Dev nD) (r : Fin 1024) : Fin 4096 := ⟨c.val * 1024 + r.val, by have h : c.val < 4 := c.isLt; omega⟩

theorem dev_val (s g : Fin 4) (c : Dev nD) : (dev s g c).val = if g.val < 2 then (c.val + 3 * s.val) % 4 else (c.val + s.val) % 4 := by
  revert s g c; decide

/-- The block of a row of a stack, and the row in it. -/
def blkOf (b : Fin 256) : Fin 4 := ⟨b.val / 64, by omega⟩
def posOf (b : Fin 256) : Fin 64 := ⟨b.val % 64, by omega⟩

theorem rowIn_of (b : Fin 256) : rowIn (blkOf b) (posOf b) = b := Fin.ext (by show b.val / 64 * 64 + b.val % 64 = b.val; omega)

/-- The row of the whole array that row `b` of slot `s` of class `rr` is on device `c`. -/
def at' (c : Dev nD) (rr : Fin 4) (p : Fin 4 × Fin 256) : Fin 4096 := gl (dev p.1 (blkOf p.2) c) (rowOf rr (blkOf p.2) (posOf p.2))

theorem at_val (c : Dev nD) (rr : Fin 4) (s : Fin 4) (b : Fin 256) :
    (at' c rr (s, b)).val = (if b.val / 64 < 2 then (c.val + 3 * s.val) % 4 else (c.val + s.val) % 4) * 1024 + (b.val / 64 * 256 + rr.val * 64 + b.val % 64) := by
  show (dev s (blkOf b) c).val * 1024 + _ = _
  rw [dev_val]
  rfl

theorem at_inj (c : Dev nD) (rr : Fin 4) : Function.Injective (at' c rr) := by
  rintro ⟨s, b⟩ ⟨s', b'⟩ e
  have hc : c.val < 4 := c.isLt
  have hs := s.isLt
  have hs' := s'.isLt
  have hb := b.isLt
  have hb' := b'.isLt
  have hr := rr.isLt
  have h := congrArg Fin.val e
  rw [at_val, at_val] at h
  have hbb : b.val = b'.val := by split_ifs at h <;> omega
  rw [hbb] at h
  have hss : s.val = s'.val := by split_ifs at h <;> omega
  rw [Fin.ext hbb, Fin.ext hss]

theorem at_onto (c : Dev nD) (rr g : Fin 4) (t : Fin 64) (j : Fin 4096) :
    j.val / 64 % 4 = (gl c (rowOf rr g t)).val / 64 % 4 ↔ ∃ p, at' c rr p = j := by
  have hc : c.val < 4 := c.isLt
  have hj := j.isLt
  have hr := rr.isLt
  have hg := g.isLt
  have ht := t.isLt
  have e : (gl c (rowOf rr g t)).val / 64 % 4 = rr.val := by
    show (c.val * 1024 + (g.val * 256 + rr.val * 64 + t.val)) / 64 % 4 = rr.val
    omega
  rw [e]
  constructor
  · intro h
    refine ⟨(⟨if j.val / 256 % 4 < 2 then (c.val + 4 - j.val / 1024) % 4 else (j.val / 1024 + 4 - c.val) % 4, by split_ifs <;> omega⟩,
      ⟨j.val / 256 % 4 * 64 + j.val % 64, by omega⟩), Fin.ext ?_⟩
    rw [at_val]
    have h1 : (j.val / 256 % 4 * 64 + j.val % 64) / 64 = j.val / 256 % 4 := by omega
    have h2 : (j.val / 256 % 4 * 64 + j.val % 64) % 64 = j.val % 64 := by omega
    simp only [h1, h2]
    split_ifs <;> omega
  · rintro ⟨⟨s, b⟩, rfl⟩
    have hs := s.isLt
    have hb := b.isLt
    rw [at_val]
    split_ifs <;> omega

section
variable (m : (ℓ : Loc nD τ sig) → Buf (Elt Ideal) ℓ) (ρ : Dev nD → PrngReg)
variable (x k v : FVec Ideal Cert.ReferenceIdeal.S4096x1024 .bf16) (wq wo : FVec Ideal Cert.ReferenceIdeal.S1024x1024 .bf16)

/-- The kernel's memory holds the blocks of the reference's arrays. -/
structure Holds : Prop where
  x : ∀ c r n, xst m ρ c (ix2 r n) = x (ix2 (gl c r) n)
  wq : ∀ c r n, wqst m ρ c (ix2 r n) = wq (ix2 r n)
  k : ∀ c r n, kst m ρ c (ix2 r n) = k (ix2 (gl c r) n)
  v : ∀ c r n, vst m ρ c (ix2 r n) = v (ix2 (gl c r) n)
  wo : ∀ c r n, wost m ρ c (ix2 r n) = wo (ix2 r n)

variable {m ρ x k v wq wo}

theorem key_eq (H : Holds m ρ x k v wq wo) (c : Dev nD) (rr s : Fin 4) (b : Fin 256) (n : Fin 1024) :
    keyB m ρ c rr false s (ix2 b n) = k (ix2 (at' c rr (s, b)) n) := by
  rw [← rowIn_of b, keyB_at, rowIn_of b]
  exact H.k _ _ _

theorem val_eq (H : Holds m ρ x k v wq wo) (c : Dev nD) (rr s : Fin 4) (b : Fin 256) (n : Fin 1024) :
    keyB m ρ c rr true s (ix2 b n) = v (ix2 (at' c rr (s, b)) n) := by
  rw [← rowIn_of b, keyB_at, rowIn_of b]
  exact H.v _ _ _

/-- The score of row `i` against row `j` in head `h`, over the reals. -/
def yr (xr : Fin 4096 → Fin 1024 → ℝ) (wr : Fin 1024 → Fin 1024 → ℝ) (kr : Fin 4096 → Fin 1024 → ℝ) (h : Fin 8) (i j : Fin 4096) : ℝ :=
  (∑ d : Fin 128, (∑ c : Fin 1024, xr i c * wr c (col h d)) * kr j (col h d)) * (Real.sqrt 128)⁻¹

variable {xr kr : Fin 4096 → Fin 1024 → ℝ} {wr : Fin 1024 → Fin 1024 → ℝ}

theorem q_real (hx : ∀ i n, x (ix2 i n) = (xr i n : EReal)) (hw : ∀ i n, wq (ix2 i n) = (wr i n : EReal)) (i : Fin 4096) (e : Fin 1024) :
    ∑ c : Fin 1024, x (ix2 i c) * wq (ix2 c e) = ((∑ c : Fin 1024, xr i c * wr c e : ℝ) : EReal) := by
  rw [← Cert.Soft.coe_sum]
  exact Finset.sum_congr rfl fun c _ => by rw [hx, hw, EReal.coe_mul]

theorem ref_score (hx : ∀ i n, x (ix2 i n) = (xr i n : EReal)) (hw : ∀ i n, wq (ix2 i n) = (wr i n : EReal))
    (hk : ∀ i n, k (ix2 i n) = (kr i n : EReal)) (h : Fin 8) (i j : Fin 4096) :
    Cert.ReferenceIdeal.Attn.score x wq k (ix3 h i j) = (yr xr wr kr h i j : EReal) := by
  rw [Cert.ReferenceIdeal.Attn.score_at, yr, EReal.coe_mul, ← Cert.Soft.coe_sum]
  congr 1
  refine Finset.sum_congr rfl fun d _ => ?_
  rw [EReal.coe_mul, ← q_real hx hw, hk]
  rfl

theorem ker_score (H : Holds m ρ x k v wq wo) (hx : ∀ i n, x (ix2 i n) = (xr i n : EReal)) (hw : ∀ i n, wq (ix2 i n) = (wr i n : EReal))
    (hk : ∀ i n, k (ix2 i n) = (kr i n : EReal))
    (c : Dev nD) (rr g s : Fin 4) (t : Fin 64) (h : Fin 8) (b : Fin 256) :
    sc h (qcl (xst m ρ c) (wqst m ρ c) rr) (keyB m ρ c rr false s) (rowIn g t) b
      = (yr xr wr kr h (gl c (rowOf rr g t)) (at' c rr (s, b)) : EReal) := by
  unfold sc
  rw [yr, Finset.sum_mul, ← Cert.Soft.coe_sum]
  refine Finset.sum_congr rfl fun d _ => ?_
  rw [qcl_at, key_eq H, hk]
  have e : ∑ c' : Fin 1024, xst m ρ c (ix2 (rowOf rr g t) c') * wqst m ρ c (ix2 c' (col h d))
      = ((∑ c' : Fin 1024, xr (gl c (rowOf rr g t)) c' * wr c' (col h d) : ℝ) : EReal) := by
    rw [← q_real hx hw]
    exact Finset.sum_congr rfl fun c' _ => by rw [H.x, H.wq]
  rw [e, ← EReal.coe_mul, ← EReal.coe_mul]
  congr 1
  ring

theorem head_eq (H : Holds m ρ x k v wq wo) (hx : ∀ i n, x (ix2 i n) = (xr i n : EReal)) (hw : ∀ i n, wq (ix2 i n) = (wr i n : EReal))
    (hk : ∀ i n, k (ix2 i n) = (kr i n : EReal))
    (c : Dev nD) (rr g : Fin 4) (t : Fin 64) (h : Fin 8) (d : Fin 128) (hr : rr.val ≤ 3) :
    headsAt m ρ c (qcl (xst m ρ c) (wqst m ρ c) rr) rr.val hr (ix2 (rowIn g t) (col h d))
      = Cert.ReferenceIdeal.Attn.ctx x wq k v (ix3 h d (gl c (rowOf rr g t))) := by
  rw [headsAt_at, Cert.ReferenceIdeal.Attn.ctx_list x wq k v h d (gl c (rowOf rr g t)) (at' c rr) (at_inj c rr) (at_onto c rr g t)
    (fun j => yr xr wr kr h (gl c (rowOf rr g t)) j) (ref_score hx hw hk h _)]
  have es (s : Fin 4) : sc h (qcl (xst m ρ c) (wqst m ρ c) rr) (keyB m ρ c rr false s) (rowIn g t)
      = fun b => (yr xr wr kr h (gl c (rowOf rr g t)) (at' c rr (s, b)) : EReal) := funext (ker_score H hx hw hk c rr g s t h)
  have ev (s : Fin 4) : (fun b => keyB m ρ c rr true s (ix2 b (col h d))) = fun b => v (ix2 (at' c rr (s, b)) (col h d)) :=
    funext fun b => val_eq H c rr s b _
  rw [es, es, es, es, ev, ev, ev, ev]
  exact Cert.Soft.onl_eq (fun s b => yr xr wr kr h (gl c (rowOf rr g t)) (at' c rr (s, b))) (fun s b => v (ix2 (at' c rr (s, b)) (col h d)))

/-- Row `r` of the kernel's result on device `c` is row `r` of block `c` of the reference's. -/
theorem out_eq (H : Holds m ρ x k v wq wo) (hx : ∀ i n, x (ix2 i n) = (xr i n : EReal)) (hw : ∀ i n, wq (ix2 i n) = (wr i n : EReal))
    (hk : ∀ i n, k (ix2 i n) = (kr i n : EReal)) (c : Dev nD) (r n : Fin 1024) :
    outV m ρ c (ix2 r n) = Cert.ReferenceIdeal.Attn.out x wq k v wo (ix2 (gl c r) n) := by
  have hr : r = rowOf ⟨r.val / 64 % 4, by omega⟩ ⟨r.val / 256, by omega⟩ ⟨r.val % 64, by omega⟩ :=
    Fin.ext (by show r.val = r.val / 256 * 256 + r.val / 64 % 4 * 64 + r.val % 64; omega)
  generalize (⟨r.val / 64 % 4, by omega⟩ : Fin 4) = rr at hr
  generalize (⟨r.val / 256, by omega⟩ : Fin 4) = g at hr
  generalize (⟨r.val % 64, by omega⟩ : Fin 64) = t at hr
  subst hr
  rw [outV_at, Cert.ReferenceIdeal.Attn.out_at]
  refine Finset.sum_congr rfl fun e _ => ?_
  have he : e = col ⟨e.val / 128, by omega⟩ ⟨e.val % 128, by omega⟩ := Fin.ext (by show e.val = e.val / 128 * 128 + e.val % 128; omega)
  rw [H.wo, ← head_eq H hx hw hk c rr g t ⟨e.val / 128, by omega⟩ ⟨e.val % 128, by omega⟩ (by omega), ← he]

end

end Cert.Join
-- ==== Proof.Final.lean ====
module

public import proofs.«01_k».proof.Proof.Frames
public import proofs.«01_k».proof.Proof.Join
public import Idealize.ShloMosaic.Lib.ReduceAll

/-! The value claim: from the precondition to real scores, from the agreement of the two memories to the
rows the kernel stages, and from the two runs to the equality of their results. -/

@[expose] public section

noncomputable section

namespace Cert.Final

open Idealize.ShloMosaic Idealize.ShloMosaic.TcCoe Idealize.SL.Sem Cert.KernelIdeal Cert.KernelIdeal.Gen Cert.KernelIdeal.Attn Cert.Join

theorem preFactsK : Cert.Pre_finite_scores_KernelIdeal.Facts where
  bitsLt_bf16_f32 := by decide
  bcast_S_S1024x1024 := by decide
  reducesTo_S1024x1024_S_d0_1 := by decide
  h_S_ := by decide

theorem preFactsR : Cert.Pre_finite_scores_ReferenceIdeal.Facts where
  bitsLt_bf16_f32 := by decide
  bcast_S_S4096x1024 := by decide
  reducesTo_S4096x1024_S_d0_1 := by decide
  h_S_ := by decide
  bcast_S_S1024x1024 := by decide
  reducesTo_S1024x1024_S_d0_1 := by decide

/-- A value whose magnitude is below `+∞` is real. -/
theorem real_of (z : EReal) (h : Ideal.cmp .olt (max z (-z)) (Ideal.ofBits .f32 0x7F800000#32) = 1#1) : z = (z.toReal : EReal) := by
  have htop : Ideal.ofBits .f32 0x7F800000#32 = ⊤ := by simp [Ideal.ofBits, Ideal.ieee]
  rw [htop] at h
  have hlt : max z (-z) < ⊤ := by
    by_contra hn
    unfold Ideal.cmp at h
    simp [hn] at h
  refine (EReal.coe_toReal ?_ ?_).symm
  · rintro rfl; simp at hlt
  · rintro rfl; simp at hlt

attribute [local instance] preFactsK

instance : Subsingleton Cert.Pre_finite_scores_KernelIdeal.S_.Idx := ⟨fun a b => funext fun i => absurd i.isLt (Nat.not_lt_zero _)⟩

/-- The precondition makes every entry of the three arrays real. -/
theorem reals (a0 a1 a2 a3 a4 : FVec Ideal Cert.Pre_finite_scores_KernelIdeal.S1024x1024 .bf16)
    (h : Cert.Pre_finite_scores_KernelIdeal.fn (F := Ideal) a0 a1 a2 a3 a4 = fun _ => 1#1) :
    (∀ i, a0 i = ((a0 i).toReal : EReal)) ∧ (∀ i, a1 i = ((a1 i).toReal : EReal)) ∧ (∀ i, a2 i = ((a2 i).toReal : EReal)) := by
  have h := congrFun h (fun i => absurd i.isLt (Nat.not_lt_zero _))
  unfold Cert.Pre_finite_scores_KernelIdeal.fn at h
  dsimp only at h
  obtain ⟨h01, h2⟩ := IntOp.andi_eq_one.1 h
  obtain ⟨h0, h1⟩ := IntOp.andi_eq_one.1 h01
  exact ⟨fun i => real_of _ (Host.reduce_andi_all _ _ _ _ _ h0 i), fun i => real_of _ (Host.reduce_andi_all _ _ _ _ _ h1 i),
    fun i => real_of _ (Host.reduce_andi_all _ _ _ _ _ h2 i)⟩

section
variable (m : (ℓ : Loc nD τ sig) → Buf (Elt Ideal) ℓ) (ρ : Dev nD → PrngReg)

theorem xst_eq (c : Dev nD) : xst m ρ c = m ((c : Thread nD τ).loc main_arg0) :=
  Memref.read_access_unit_zero (Elt Ideal) main_arg0 (funext fun a => by fin_cases a <;> decide) (fun a => by fin_cases a <;> decide) _
theorem wqst_eq (c : Dev nD) : wqst m ρ c = m ((c : Thread nD τ).loc main_arg1) :=
  Memref.read_access_unit_zero (Elt Ideal) main_arg1 (funext fun a => by fin_cases a <;> decide) (fun a => by fin_cases a <;> decide) _
theorem kst_eq (c : Dev nD) : kst m ρ c = m ((c : Thread nD τ).loc main_arg2) :=
  Memref.read_access_unit_zero (Elt Ideal) main_arg2 (funext fun a => by fin_cases a <;> decide) (fun a => by fin_cases a <;> decide) _
theorem vst_eq (c : Dev nD) : vst m ρ c = m ((c : Thread nD τ).loc main_arg3) :=
  Memref.read_access_unit_zero (Elt Ideal) main_arg3 (funext fun a => by fin_cases a <;> decide) (fun a => by fin_cases a <;> decide) _
theorem wost_eq (c : Dev nD) : wost m ρ c = m ((c : Thread nD τ).loc main_arg4) :=
  Memref.read_access_unit_zero (Elt Ideal) main_arg4 (funext fun a => by fin_cases a <;> decide) (fun a => by fin_cases a <;> decide) _

/-- The result buffer after the run. -/
theorem final_out (c : Dev nD) : finalA m ρ c 5 = outV m ρ c := by
  have h : (win0_5.blk (0 : Fin 1)).view.read (Elt Ideal) (finalA m ρ c 5) = outV m ρ c := by
    unfold finalA
    rw [show cfg0.N = ((0 : Fin 1) : Fin cfg0.N).val + 1 from rfl, (dats m ρ 0 c).arrAt_succ 5 (0 : Fin 1)]
    rw [show (cfg0.win 5).flush (0 : Fin 1) = true from by decide, if_pos rfl]
    exact View.read_write_univ _ _
  exact (Memref.read_access_unit_zero (Elt Ideal) main_v1 (funext fun a => by fin_cases a <;> decide) (fun a => by fin_cases a <;> decide) _).symm.trans h
end

theorem blk_at (c : Fin 4) (w : FVec Ideal Cert.ReferenceIdeal.S4096x1024 .bf16) (r n : Fin 1024) :
    Layout.block ⟨2, ![1024, 1024]⟩ ⟨2, ![4096, 1024]⟩ 0 4 c w (by decide) (ix2 r n) = w (ix2 (gl c r) n) := by
  rw [Layout.block_apply]
  congr 1
  funext a
  match a with
  | 0 => rfl
  | 1 => rfl

theorem value : Cert.algebraic_KernelIdeal_ReferenceIdeal_pre_finite_scores_KernelIdeal := by
  intro m ρ m' ρ' hpre hag
  refine ⟨Cert.ReferenceIdeal.Value.res_main_v47 m' 0, ?_, ?_⟩
  · refine (θ_run defs _ _).mono (fun r h c => ⟨?_, kept_of m ρ r h.1 c⟩) (run_main (F := Ideal) m ρ)
    refine ((h.1 c 5).trans (final_out m ρ c)).trans ?_
    rw [Cert.ReferenceIdeal.Attn.res_eq]
    let X : FVec Ideal Cert.ReferenceIdeal.S4096x1024 .bf16 := (m' (((0 : Dev Cert.ReferenceIdeal.nD).tc : Thread Cert.ReferenceIdeal.nD Cert.ReferenceIdeal.τ).loc Cert.ReferenceIdeal.main_arg0))
    let W : FVec Ideal Cert.ReferenceIdeal.S1024x1024 .bf16 := (m' (((0 : Dev Cert.ReferenceIdeal.nD).tc : Thread Cert.ReferenceIdeal.nD Cert.ReferenceIdeal.τ).loc Cert.ReferenceIdeal.main_arg1))
    let K : FVec Ideal Cert.ReferenceIdeal.S4096x1024 .bf16 := (m' (((0 : Dev Cert.ReferenceIdeal.nD).tc : Thread Cert.ReferenceIdeal.nD Cert.ReferenceIdeal.τ).loc Cert.ReferenceIdeal.main_arg2))
    let V : FVec Ideal Cert.ReferenceIdeal.S4096x1024 .bf16 := (m' (((0 : Dev Cert.ReferenceIdeal.nD).tc : Thread Cert.ReferenceIdeal.nD Cert.ReferenceIdeal.τ).loc Cert.ReferenceIdeal.main_arg3))
    let O : FVec Ideal Cert.ReferenceIdeal.S1024x1024 .bf16 := (m' (((0 : Dev Cert.ReferenceIdeal.nD).tc : Thread Cert.ReferenceIdeal.nD Cert.ReferenceIdeal.τ).loc Cert.ReferenceIdeal.main_arg4))
    have H : Holds m ρ X K V W O :=
      { x := fun c r n => by rw [xst_eq, (hag c).1]; exact blk_at c _ r n
        wq := fun c r n => by rw [wqst_eq, (hag c).2.1]
        k := fun c r n => by rw [kst_eq, (hag c).2.2.1]; exact blk_at c _ r n
        v := fun c r n => by rw [vst_eq, (hag c).2.2.2.1]; exact blk_at c _ r n
        wo := fun c r n => by rw [wost_eq, (hag c).2.2.2.2] }
    have hgl (i : Fin 4096) : ∃ (c : Fin 4) (r : Fin 1024), i = gl c r :=
      ⟨⟨i.val / 1024, by omega⟩, ⟨i.val % 1024, by omega⟩, Fin.ext (by show i.val = i.val / 1024 * 1024 + i.val % 1024; omega)⟩
    refine funext fun j => ?_
    have hj : j = ix2 (⟨(j 0).val, (j 0).isLt⟩ : Fin 1024) (⟨(j 1).val, (j 1).isLt⟩ : Fin 1024) := by
      funext a
      match a with
      | 0 => rfl
      | 1 => rfl
    rw [hj]
    have hx : ∀ (i : Fin 4096) (n : Fin 1024), X (ix2 i n) = ((X (ix2 i n)).toReal : EReal) := fun i n => by
      obtain ⟨c', r', rfl⟩ := hgl i
      have e := (reals _ _ _ _ _ (hpre c')).1 (ix2 r' n)
      rw [(hag c').1] at e
      rw [← blk_at c' X r' n]
      exact e
    have hw : ∀ (i n : Fin 1024), W (ix2 i n) = ((W (ix2 i n)).toReal : EReal) := fun i n => by
      have e := (reals _ _ _ _ _ (hpre 0)).2.1 (ix2 i n)
      rw [(hag 0).2.1] at e
      exact e
    have hk : ∀ (i : Fin 4096) (n : Fin 1024), K (ix2 i n) = ((K (ix2 i n)).toReal : EReal) := fun i n => by
      obtain ⟨c', r', rfl⟩ := hgl i
      have e := (reals _ _ _ _ _ (hpre c')).2.2 (ix2 r' n)
      rw [(hag c').2.2.1] at e
      rw [← blk_at c' K r' n]
      exact e
    refine (out_eq H hx hw hk c _ _).trans ?_
    · rw [Layout.block_apply]
      congr 1
      funext a
      match a with
      | 0 => rfl
      | 1 => rfl
  · exact (θ_run Cert.ReferenceIdeal.defs _ _).mono (fun r h => h 0) (Cert.ReferenceIdeal.Value.run (F := Ideal) m' ρ')

end Cert.Final
-- ==== Proof.lean ====
module

public import proofs.«01_k».proof.Defs
public import proofs.«01_k».proof.Proof.Final

/-! The claims, assembled. -/

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Final.preFactsK, Cert.Final.preFactsR,
  Cert.KernelIdeal.Attn.frame_kernel, Cert.KernelIdeal.Attn.frame_ideal, fun m ρ _ => Cert.KernelIdeal.Attn.frame_ideal m ρ trivial,
  Cert.KernelIdeal.Attn.frame_reference, fun m ρ _ => Cert.KernelIdeal.Attn.frame_reference m ρ trivial,
  IdealRules.named_const.statement Cert.KernelIdeal.κ "scale" .f32 0x3DB504F3#32 (((Real.sqrt 128)⁻¹ : ℝ) : EReal) rfl, Cert.Final.value⟩

end Cert.Proof

end
